-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x26 : Shape := ⟨2, ![16384, 26]⟩
abbrev S16384x13 : Shape := ⟨2, ![16384, 13]⟩
abbrev S26x100001x16 : Shape := ⟨3, ![26, 100001, 16]⟩
abbrev S429x400 : Shape := ⟨2, ![429, 400]⟩
abbrev S400 : Shape := ⟨1, ![400]⟩
abbrev S400x400 : Shape := ⟨2, ![400, 400]⟩
abbrev S427x1 : Shape := ⟨2, ![427, 1]⟩
abbrev S1 : Shape := ⟨1, ![1]⟩
abbrev S_ : Shape := ⟨0, ![]⟩
abbrev S26x1 : Shape := ⟨2, ![26, 1]⟩

class Facts : Prop where
  bcast_S_S16384x26 : S_.BroadcastsInDim S16384x26 (![] : Fin 0 → Fin S16384x26.rank)
  bcast_S_S16384x13 : S_.BroadcastsInDim S16384x13 (![] : Fin 0 → Fin S16384x13.rank)
  bcast_S_S26x100001x16 : S_.BroadcastsInDim S26x100001x16 (![] : Fin 0 → Fin S26x100001x16.rank)
  bcast_S_S429x400 : S_.BroadcastsInDim S429x400 (![] : Fin 0 → Fin S429x400.rank)
  bcast_S_S400 : S_.BroadcastsInDim S400 (![] : Fin 0 → Fin S400.rank)
  bcast_S_S400x400 : S_.BroadcastsInDim S400x400 (![] : Fin 0 → Fin S400x400.rank)
  slices_S427x1_S26x1_0_0 : S427x1.Slices ![0, 0] S26x1
  bcast_S_S26x1 : S_.BroadcastsInDim S26x1 (![] : Fin 0 → Fin S26x1.rank)

variable [Facts]

def fn_part1 {F : FTy → Type} [FloatOps F] (main_arg6 : FVec F S400 .f32) (main_arg7 : FVec F S400x400 .f32) (main_arg9 : FVec F S400 .f32) (main_arg11 : FVec F S427x1 .f32) (main_v1 : IVec S16384x26 1) (main_v3 : IVec S16384x26 1) (main_v6 : IVec S16384x13 1) (main_v9 : IVec S26x100001x16 1) (main_v12 : IVec S429x400 1) (main_v15 : IVec S400 1) (main_v16 : FVec F S400 .f32) (main_cst_4 : FVec F S_ .f32) : IVec S16384x26 1 × IVec S16384x26 1 × IVec S16384x13 1 × IVec S26x100001x16 1 × IVec S429x400 1 × IVec S400 1 × IVec S400 1 × IVec S400 1 × IVec S400x400 1 × IVec S400 1 × IVec S26x1 1 :=
  let main_v17 : FVec F S400 .f32 := broadcastInDim S400 ![] bcast_S_S400 main_cst_4
  let main_v18 : IVec S400 1 := cmpf .olt main_v16 main_v17
  let main_v19 : FVec F S400 .f32 := Host.absf main_arg6
  let main_cst_5 : FVec F S_ .f32 := constant S_ .f32 0x7F800000#32
  let main_v20 : FVec F S400 .f32 := broadcastInDim S400 ![] bcast_S_S400 main_cst_5
  let main_v21 : IVec S400 1 := cmpf .olt main_v19 main_v20
  let main_v22 : FVec F S400x400 .f32 := Host.absf main_arg7
  let main_cst_6 : FVec F S_ .f32 := constant S_ .f32 0x7F800000#32
  let main_v23 : FVec F S400x400 .f32 := broadcastInDim S400x400 ![] bcast_S_S400x400 main_cst_6
  let main_v24 : IVec S400x400 1 := cmpf .olt main_v22 main_v23
  let main_v25 : FVec F S400 .f32 := Host.absf main_arg9
  let main_cst_7 : FVec F S_ .f32 := constant S_ .f32 0x7F800000#32
  let main_v26 : FVec F S400 .f32 := broadcastInDim S400 ![] bcast_S_S400 main_cst_7
  let main_v27 : IVec S400 1 := cmpf .olt main_v25 main_v26
  let main_v28 : FVec F S26x1 .f32 := (extractStridedSlice S26x1 ![0, 0] · slices_S427x1_S26x1_0_0) main_arg11
  let main_v29 : FVec F S26x1 .f32 := Host.absf main_v28
  let main_cst_8 : FVec F S_ .f32 := constant S_ .f32 0x7F800000#32
  let main_v30 : FVec F S26x1 .f32 := broadcastInDim S26x1 ![] bcast_S_S26x1 main_cst_8
  let main_v31 : IVec S26x1 1 := cmpf .olt main_v29 main_v30
  (main_v1, main_v3, main_v6, main_v9, main_v12, main_v15, main_v18, main_v21, main_v24, main_v27, main_v31)

def fn {F : FTy → Type} [FloatOps F] (main_arg0 : IVec S16384x26 32) (main_arg1 : FVec F S16384x13 .f32) (main_arg2 : FVec F S26x100001x16 .f32) (main_arg3 : FVec F S429x400 .f32) (main_arg4 : FVec F S400 .f32) (main_arg5 : FVec F S400 .f32) (main_arg6 : FVec F S400 .f32) (main_arg7 : FVec F S400x400 .f32) (main_arg8 : FVec F S400 .f32) (main_arg9 : FVec F S400 .f32) (main_arg10 : FVec F S400 .f32) (main_arg11 : FVec F S427x1 .f32) (main_arg12 : FVec F S1 .f32) : IVec S16384x26 1 × IVec S16384x26 1 × IVec S16384x13 1 × IVec S26x100001x16 1 × IVec S429x400 1 × IVec S400 1 × IVec S400 1 × IVec S400 1 × IVec S400x400 1 × IVec S400 1 × IVec S26x1 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : FVec F S16384x13 .f32 := Host.absf main_arg1
  let main_cst : FVec F S_ .f32 := constant S_ .f32 0x7F800000#32
  let main_v5 : FVec F S16384x13 .f32 := broadcastInDim S16384x13 ![] bcast_S_S16384x13 main_cst
  let main_v6 : IVec S16384x13 1 := cmpf .olt main_v4 main_v5
  let main_v7 : FVec F S26x100001x16 .f32 := Host.absf main_arg2
  let main_cst_1 : FVec F S_ .f32 := constant S_ .f32 0x7F800000#32
  let main_v8 : FVec F S26x100001x16 .f32 := broadcastInDim S26x100001x16 ![] bcast_S_S26x100001x16 main_cst_1
  let main_v9 : IVec S26x100001x16 1 := cmpf .olt main_v7 main_v8
  let main_v10 : FVec F S429x400 .f32 := Host.absf main_arg3
  let main_cst_2 : FVec F S_ .f32 := constant S_ .f32 0x7F800000#32
  let main_v11 : FVec F S429x400 .f32 := broadcastInDim S429x400 ![] bcast_S_S429x400 main_cst_2
  let main_v12 : IVec S429x400 1 := cmpf .olt main_v10 main_v11
  let main_v13 : FVec F S400 .f32 := Host.absf main_arg4
  let main_cst_3 : FVec F S_ .f32 := constant S_ .f32 0x7F800000#32
  let main_v14 : FVec F S400 .f32 := broadcastInDim S400 ![] bcast_S_S400 main_cst_3
  let main_v15 : IVec S400 1 := cmpf .olt main_v13 main_v14
  let main_v16 : FVec F S400 .f32 := Host.absf main_arg5
  let main_cst_4 : FVec F S_ .f32 := constant S_ .f32 0x7F800000#32
  fn_part1 (F := F) main_arg6 main_arg7 main_arg9 main_arg11 main_v1 main_v3 main_v6 main_v9 main_v12 main_v15 main_v16 main_cst_4
-- ==== Kernel.lean ====
abbrev S16384x26 : Shape := ⟨2, ![16384, 26]⟩
abbrev S16384x13 : Shape := ⟨2, ![16384, 13]⟩
abbrev S26x100001x16 : Shape := ⟨3, ![26, 100001, 16]⟩
abbrev S429x400 : Shape := ⟨2, ![429, 400]⟩
abbrev S400 : Shape := ⟨1, ![400]⟩
abbrev S400x400 : Shape := ⟨2, ![400, 400]⟩
abbrev S427x1 : Shape := ⟨2, ![427, 1]⟩
abbrev S1 : Shape := ⟨1, ![1]⟩
abbrev S416 : Shape := ⟨1, ![416]⟩
abbrev S17x416 : Shape := ⟨2, ![17, 416]⟩
abbrev S_ : Shape := ⟨0, ![]⟩
abbrev S400x1 : Shape := ⟨2, ![400, 1]⟩
abbrev S1x400 : Shape := ⟨2, ![1, 400]⟩
abbrev S416x400 : Shape := ⟨2, ![416, 400]⟩
abbrev S416x1 : Shape := ⟨2, ![416, 1]⟩
abbrev S400x416 : Shape := ⟨2, ![400, 416]⟩
abbrev S13x400 : Shape := ⟨2, ![13, 400]⟩
abbrev S400x13 : Shape := ⟨2, ![400, 13]⟩
abbrev S26x1 : Shape := ⟨2, ![26, 1]⟩
abbrev S26 : Shape := ⟨1, ![26]⟩
abbrev S1x26 : Shape := ⟨2, ![1, 26]⟩
abbrev S16x26 : Shape := ⟨2, ![16, 26]⟩
abbrev S1x416 : Shape := ⟨2, ![1, 416]⟩
abbrev S1x1 : Shape := ⟨2, ![1, 1]⟩
abbrev S2 : Shape := ⟨1, ![2]⟩
abbrev S1x2 : Shape := ⟨2, ![1, 2]⟩
abbrev S13x16384 : Shape := ⟨2, ![13, 16384]⟩
abbrev S4096x26 : Shape := ⟨2, ![4096, 26]⟩
abbrev S26x4096 : Shape := ⟨2, ![26, 4096]⟩
abbrev S26x4096x1 : Shape := ⟨3, ![26, 4096, 1]⟩
abbrev S26x4096x16 : Shape := ⟨3, ![26, 4096, 16]⟩
abbrev S106496x16 : Shape := ⟨2, ![106496, 16]⟩
abbrev S16x106496 : Shape := ⟨2, ![16, 106496]⟩
abbrev S13x4096 : Shape := ⟨2, ![13, 4096]⟩
abbrev S1x4096 : Shape := ⟨2, ![1, 4096]⟩
abbrev S416x4096 : Shape := ⟨2, ![416, 4096]⟩
abbrev S400x4096 : Shape := ⟨2, ![400, 4096]⟩
abbrev S17x4096 : Shape := ⟨2, ![17, 4096]⟩
abbrev S16x4096 : Shape := ⟨2, ![16, 4096]⟩
abbrev S4096 : Shape := ⟨1, ![4096]⟩
abbrev S1x16384 : Shape := ⟨2, ![1, 16384]⟩
abbrev S16384 : Shape := ⟨1, ![16384]⟩

abbrev nBuf : Space → Nat
  | .hbm => 136
  | .vmem => 48
  | .smem => 0
  | _ => 0

abbrev hbmTy0_0 (i : Nat) : BufTy := match i % 128 with
  | 0 => ⟨S16384x26, .i32⟩
  | 1 => ⟨S16384x13, .f32⟩
  | 2 => ⟨S26x100001x16, .f32⟩
  | 3 => ⟨S429x400, .f32⟩
  | 4 => ⟨S400, .f32⟩
  | 5 => ⟨S400, .f32⟩
  | 6 => ⟨S400, .f32⟩
  | 7 => ⟨S400x400, .f32⟩
  | 8 => ⟨S400, .f32⟩
  | 9 => ⟨S400, .f32⟩
  | 10 => ⟨S400, .f32⟩
  | 11 => ⟨S427x1, .f32⟩
  | 12 => ⟨S1, .f32⟩
  | 13 => ⟨S416, .i32⟩
  | 14 => ⟨S17x416, .f32⟩
  | 15 => ⟨S_, .f32⟩
  | 16 => ⟨S_, .f32⟩
  | 17 => ⟨S_, .f32⟩
  | 18 => ⟨S_, .f32⟩
  | 19 => ⟨S_, .f32⟩
  | 20 => ⟨S400, .f32⟩
  | 21 => ⟨S400, .f32⟩
  | 22 => ⟨S400, .f32⟩
  | 23 => ⟨S400, .f32⟩
  | 24 => ⟨S400x1, .f32⟩
  | 25 => ⟨S_, .f32⟩
  | 26 => ⟨S400, .f32⟩
  | 27 => ⟨S400, .f32⟩
  | 28 => ⟨S1x400, .f32⟩
  | 29 => ⟨S400x400, .f32⟩
  | 30 => ⟨S400x400, .f32⟩
  | 31 => ⟨S400x400, .f32⟩
  | 32 => ⟨S400, .f32⟩
  | 33 => ⟨S400, .f32⟩
  | 34 => ⟨S400x1, .f32⟩
  | 35 => ⟨S416x400, .f32⟩
  | 36 => ⟨S1x400, .f32⟩
  | 37 => ⟨S416x400, .f32⟩
  | 38 => ⟨S416x400, .f32⟩
  | 39 => ⟨S_, .i32⟩
  | 40 => ⟨S416, .i32⟩
  | 41 => ⟨S416, .i1⟩
  | 42 => ⟨S_, .i32⟩
  | 43 => ⟨S416, .i32⟩
  | 44 => ⟨S416, .i32⟩
  | 45 => ⟨S416, .i32⟩
  | 46 => ⟨S416x1, .i32⟩
  | 47 => ⟨S416x400, .f32⟩
  | 48 => ⟨S400x416, .f32⟩
  | 49 => ⟨S13x400, .f32⟩
  | 50 => ⟨S1x400, .f32⟩
  | 51 => ⟨S13x400, .f32⟩
  | 52 => ⟨S13x400, .f32⟩
  | 53 => ⟨S400x13, .f32⟩
  | 54 => ⟨S26x1, .f32⟩
  | 55 => ⟨S26, .f32⟩
  | 56 => ⟨S1x26, .f32⟩
  | 57 => ⟨S16x26, .f32⟩
  | 58 => ⟨S416, .f32⟩
  | 59 => ⟨S_, .i32⟩
  | 60 => ⟨S1, .i32⟩
  | 61 => ⟨S17x416, .f32⟩
  | 62 => ⟨S_, .f32⟩
  | 63 => ⟨S1x416, .f32⟩
  | 64 => ⟨S400x1, .f32⟩
  | 65 => ⟨S1x400, .f32⟩
  | 66 => ⟨S1x1, .f32⟩
  | 67 => ⟨S_, .f32⟩
  | 68 => ⟨S_, .f32⟩
  | 69 => ⟨S1, .f32⟩
  | 70 => ⟨S1, .f32⟩
  | 71 => ⟨S2, .f32⟩
  | 72 => ⟨S1x2, .f32⟩
  | 73 => ⟨S13x16384, .f32⟩
  | 74 => ⟨S4096x26, .i32⟩
  | 75 => ⟨S_, .i32⟩
  | 76 => ⟨S4096x26, .i32⟩
  | 77 => ⟨S4096x26, .i1⟩
  | 78 => ⟨S_, .i32⟩
  | 79 => ⟨S4096x26, .i32⟩
  | 80 => ⟨S4096x26, .i32⟩
  | 81 => ⟨S4096x26, .i32⟩
  | 82 => ⟨S26x4096, .i32⟩
  | 83 => ⟨S26x4096x1, .i32⟩
  | 84 => ⟨S26x4096x16, .f32⟩
  | 85 => ⟨S106496x16, .f32⟩
  | 86 => ⟨S16x106496, .f32⟩
  | 87 => ⟨S13x4096, .f32⟩
  | 88 => ⟨S1x4096, .f32⟩
  | 89 => ⟨S4096x26, .i32⟩
  | 90 => ⟨S_, .i32⟩
  | 91 => ⟨S4096x26, .i32⟩
  | 92 => ⟨S4096x26, .i1⟩
  | 93 => ⟨S_, .i32⟩
  | 94 => ⟨S4096x26, .i32⟩
  | 95 => ⟨S4096x26, .i32⟩
  | 96 => ⟨S4096x26, .i32⟩
  | 97 => ⟨S26x4096, .i32⟩
  | 98 => ⟨S26x4096x1, .i32⟩
  | 99 => ⟨S26x4096x16, .f32⟩
  | 100 => ⟨S106496x16, .f32⟩
  | 101 => ⟨S16x106496, .f32⟩
  | 102 => ⟨S13x4096, .f32⟩
  | 103 => ⟨S1x4096, .f32⟩
  | 104 => ⟨S4096x26, .i32⟩
  | 105 => ⟨S_, .i32⟩
  | 106 => ⟨S4096x26, .i32⟩
  | 107 => ⟨S4096x26, .i1⟩
  | 108 => ⟨S_, .i32⟩
  | 109 => ⟨S4096x26, .i32⟩
  | 110 => ⟨S4096x26, .i32⟩
  | 111 => ⟨S4096x26, .i32⟩
  | 112 => ⟨S26x4096, .i32⟩
  | 113 => ⟨S26x4096x1, .i32⟩
  | 114 => ⟨S26x4096x16, .f32⟩
  | 115 => ⟨S106496x16, .f32⟩
  | 116 => ⟨S16x106496, .f32⟩
  | 117 => ⟨S13x4096, .f32⟩
  | 118 => ⟨S1x4096, .f32⟩
  | 119 => ⟨S4096x26, .i32⟩
  | 120 => ⟨S_, .i32⟩
  | 121 => ⟨S4096x26, .i32⟩
  | 122 => ⟨S4096x26, .i1⟩
  | 123 => ⟨S_, .i32⟩
  | 124 => ⟨S4096x26, .i32⟩
  | 125 => ⟨S4096x26, .i32⟩
  | 126 => ⟨S4096x26, .i32⟩
  | 127 => ⟨S26x4096, .i32⟩
  | _ => ⟨S16384x26, .i32⟩

abbrev hbmTy0_1 (i : Nat) : BufTy := match i % 128 with
  | 0 => ⟨S26x4096x1, .i32⟩
  | 1 => ⟨S26x4096x16, .f32⟩
  | 2 => ⟨S106496x16, .f32⟩
  | 3 => ⟨S16x106496, .f32⟩
  | 4 => ⟨S13x4096, .f32⟩
  | 5 => ⟨S1x4096, .f32⟩
  | 6 => ⟨S1x16384, .f32⟩
  | 7 => ⟨S16384, .f32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | .local _ .vmem, ⟨0, _⟩ => ⟨S16x106496, .f32⟩
  | .local _ .vmem, ⟨1, _⟩ => ⟨S13x4096, .f32⟩
  | .local _ .vmem, ⟨2, _⟩ => ⟨S400x416, .f32⟩
  | .local _ .vmem, ⟨3, _⟩ => ⟨S400x13, .f32⟩
  | .local _ .vmem, ⟨4, _⟩ => ⟨S400x1, .f32⟩
  | .local _ .vmem, ⟨5, _⟩ => ⟨S400x400, .f32⟩
  | .local _ .vmem, ⟨6, _⟩ => ⟨S400x1, .f32⟩
  | .local _ .vmem, ⟨7, _⟩ => ⟨S17x416, .f32⟩
  | .local _ .vmem, ⟨8, _⟩ => ⟨S1x416, .f32⟩
  | .local _ .vmem, ⟨9, _⟩ => ⟨S1x400, .f32⟩
  | .local _ .vmem, ⟨10, _⟩ => ⟨S1x2, .f32⟩
  | .local _ .vmem, ⟨11, _⟩ => ⟨S1x4096, .f32⟩
  | .local _ .vmem, ⟨12, _⟩ => ⟨S16x106496, .f32⟩
  | .local _ .vmem, ⟨13, _⟩ => ⟨S13x4096, .f32⟩
  | .local _ .vmem, ⟨14, _⟩ => ⟨S400x416, .f32⟩
  | .local _ .vmem, ⟨15, _⟩ => ⟨S400x13, .f32⟩
  | .local _ .vmem, ⟨16, _⟩ => ⟨S400x1, .f32⟩
  | .local _ .vmem, ⟨17, _⟩ => ⟨S400x400, .f32⟩
  | .local _ .vmem, ⟨18, _⟩ => ⟨S400x1, .f32⟩
  | .local _ .vmem, ⟨19, _⟩ => ⟨S17x416, .f32⟩
  | .local _ .vmem, ⟨20, _⟩ => ⟨S1x416, .f32⟩
  | .local _ .vmem, ⟨21, _⟩ => ⟨S1x400, .f32⟩
  | .local _ .vmem, ⟨22, _⟩ => ⟨S1x2, .f32⟩
  | .local _ .vmem, ⟨23, _⟩ => ⟨S1x4096, .f32⟩
  | .local _ .vmem, ⟨24, _⟩ => ⟨S16x106496, .f32⟩
  | .local _ .vmem, ⟨25, _⟩ => ⟨S13x4096, .f32⟩
  | .local _ .vmem, ⟨26, _⟩ => ⟨S400x416, .f32⟩
  | .local _ .vmem, ⟨27, _⟩ => ⟨S400x13, .f32⟩
  | .local _ .vmem, ⟨28, _⟩ => ⟨S400x1, .f32⟩
  | .local _ .vmem, ⟨29, _⟩ => ⟨S400x400, .f32⟩
  | .local _ .vmem, ⟨30, _⟩ => ⟨S400x1, .f32⟩
  | .local _ .vmem, ⟨31, _⟩ => ⟨S17x416, .f32⟩
  | .local _ .vmem, ⟨32, _⟩ => ⟨S1x416, .f32⟩
  | .local _ .vmem, ⟨33, _⟩ => ⟨S1x400, .f32⟩
  | .local _ .vmem, ⟨34, _⟩ => ⟨S1x2, .f32⟩
  | .local _ .vmem, ⟨35, _⟩ => ⟨S1x4096, .f32⟩
  | .local _ .vmem, ⟨36, _⟩ => ⟨S16x106496, .f32⟩
  | .local _ .vmem, ⟨37, _⟩ => ⟨S13x4096, .f32⟩
  | .local _ .vmem, ⟨38, _⟩ => ⟨S400x416, .f32⟩
  | .local _ .vmem, ⟨39, _⟩ => ⟨S400x13, .f32⟩
  | .local _ .vmem, ⟨40, _⟩ => ⟨S400x1, .f32⟩
  | .local _ .vmem, ⟨41, _⟩ => ⟨S400x400, .f32⟩
  | .local _ .vmem, ⟨42, _⟩ => ⟨S400x1, .f32⟩
  | .local _ .vmem, ⟨43, _⟩ => ⟨S17x416, .f32⟩
  | .local _ .vmem, ⟨44, _⟩ => ⟨S1x416, .f32⟩
  | .local _ .vmem, ⟨45, _⟩ => ⟨S1x400, .f32⟩
  | .local _ .vmem, ⟨46, _⟩ => ⟨S1x2, .f32⟩
  | .local _ .vmem, ⟨47, _⟩ => ⟨S1x4096, .f32⟩
  | _, _ => ⟨S16384x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_cst_1 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_6 : Ref sig .tc := ⟨.hbm, 75, rfl⟩
abbrev main_v54 : Ref sig .tc := ⟨.hbm, 76, rfl⟩
abbrev main_v55 : Ref sig .tc := ⟨.hbm, 77, rfl⟩
abbrev main_c_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_8 : Ref sig .tc := ⟨.hbm, 90, rfl⟩
abbrev main_v67 : Ref sig .tc := ⟨.hbm, 91, rfl⟩
abbrev main_v68 : Ref sig .tc := ⟨.hbm, 92, rfl⟩
abbrev main_c_9 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_c_10 : Ref sig .tc := ⟨.hbm, 105, rfl⟩
abbrev main_v80 : Ref sig .tc := ⟨.hbm, 106, rfl⟩
abbrev main_v81 : Ref sig .tc := ⟨.hbm, 107, rfl⟩
abbrev main_c_11 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_c_12 : Ref sig .tc := ⟨.hbm, 120, rfl⟩
abbrev main_v93 : Ref sig .tc := ⟨.hbm, 121, rfl⟩
abbrev main_v94 : Ref sig .tc := ⟨.hbm, 122, rfl⟩
abbrev main_c_13 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc2_stg0_0 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg9_0 : Ref sig .tc := ⟨.vmem, 33, rfl⟩
abbrev cc2_stg10_0 : Ref sig .tc := ⟨.vmem, 34, rfl⟩
abbrev cc2_stg11_0 : Ref sig .tc := ⟨.vmem, 35, rfl⟩
abbrev cc3_stg0_0 : Ref sig .tc := ⟨.vmem, 36, rfl⟩
abbrev cc3_stg1_0 : Ref sig .tc := ⟨.vmem, 37, rfl⟩
abbrev cc3_stg2_0 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg7_0 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg11_0 : Ref sig .tc := ⟨.vmem, 47, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc2_sem0_0 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem9_0 : DmaSem sig := 33
abbrev cc2_sem10_0 : DmaSem sig := 34
abbrev cc2_sem11_0 : DmaSem sig := 35
abbrev cc3_sem0_0 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem7_0 : DmaSem sig := 43
abbrev cc3_sem8_0 : DmaSem sig := 44
abbrev cc3_sem9_0 : DmaSem sig := 45
abbrev cc3_sem10_0 : DmaSem sig := 46
abbrev cc3_sem11_0 : DmaSem sig := 47

abbrev nD : Nat := 1
abbrev τ : Topo := Topo.v7x

variable {F : FTy → Type} [FloatOps F]

abbrev grid0 : Pipeline.Grid := .none

abbrev stage0_0 : Fin 1 → Memref sig .tc .vmem S16x106496 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S13x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S400x416 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S400x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S400x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S400x400 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S400x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S17x416 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x416 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x400 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev grid1 : Pipeline.Grid := .none

abbrev stage1_0 : Fin 1 → Memref sig .tc .vmem S16x106496 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S13x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S400x416 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S400x13 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S400x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S400x400 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S400x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S17x416 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1x416 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1x400 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x2 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x4096 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev grid2 : Pipeline.Grid := .none

abbrev stage2_0 : Fin 1 → Memref sig .tc .vmem S16x106496 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S13x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S400x416 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S400x13 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S400x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S400x400 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S400x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S17x416 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1x416 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1x400 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1x2 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S1x4096 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))

abbrev grid3 : Pipeline.Grid := .none

abbrev stage3_0 : Fin 1 → Memref sig .tc .vmem S16x106496 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S13x4096 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S400x416 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S400x13 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S400x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S400x400 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S400x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S17x416 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x416 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S1x400 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S1x2 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev stage3_11 : Fin 1 → Memref sig .tc .vmem S1x4096 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
-- ==== ReferenceIdeal.lean ====
abbrev S16384x26 : Shape := ⟨2, ![16384, 26]⟩
abbrev S16384x13 : Shape := ⟨2, ![16384, 13]⟩
abbrev S26x100001x16 : Shape := ⟨3, ![26, 100001, 16]⟩
abbrev S429x400 : Shape := ⟨2, ![429, 400]⟩
abbrev S400 : Shape := ⟨1, ![400]⟩
abbrev S400x400 : Shape := ⟨2, ![400, 400]⟩
abbrev S427x1 : Shape := ⟨2, ![427, 1]⟩
abbrev S1 : Shape := ⟨1, ![1]⟩
abbrev S_ : Shape := ⟨0, ![]⟩
abbrev S26x16384 : Shape := ⟨2, ![26, 16384]⟩
abbrev S26x16384x1 : Shape := ⟨3, ![26, 16384, 1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x16 : Shape := ⟨2, ![16384, 16]⟩
abbrev S16384 : Shape := ⟨1, ![16384]⟩
abbrev S16384x1 : Shape := ⟨2, ![16384, 1]⟩
abbrev S16384x416 : Shape := ⟨2, ![16384, 416]⟩
abbrev S16384x429 : Shape := ⟨2, ![16384, 429]⟩
abbrev S16384x400 : Shape := ⟨2, ![16384, 400]⟩
abbrev S1x400 : Shape := ⟨2, ![1, 400]⟩
abbrev S16384x427 : Shape := ⟨2, ![16384, 427]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100001x16, .f32⟩
  | .hbm, ⟨3, _⟩ => ⟨S429x400, .f32⟩
  | .hbm, ⟨4, _⟩ => ⟨S400, .f32⟩
  | .hbm, ⟨5, _⟩ => ⟨S400, .f32⟩
  | .hbm, ⟨6, _⟩ => ⟨S400, .f32⟩
  | .hbm, ⟨7, _⟩ => ⟨S400x400, .f32⟩
  | .hbm, ⟨8, _⟩ => ⟨S400, .f32⟩
  | .hbm, ⟨9, _⟩ => ⟨S400, .f32⟩
  | .hbm, ⟨10, _⟩ => ⟨S400, .f32⟩
  | .hbm, ⟨11, _⟩ => ⟨S427x1, .f32⟩
  | .hbm, ⟨12, _⟩ => ⟨S1, .f32⟩
  | .hbm, ⟨13, _⟩ => ⟨S_, .i32⟩
  | .hbm, ⟨14, _⟩ => ⟨S16384x26, .i32⟩
  | .hbm, ⟨15, _⟩ => ⟨S16384x26, .i1⟩
  | .hbm, ⟨16, _⟩ => ⟨S_, .i32⟩
  | .hbm, ⟨17, _⟩ => ⟨S16384x26, .i32⟩
  | .hbm, ⟨18, _⟩ => ⟨S16384x26, .i32⟩
  | .hbm, ⟨19, _⟩ => ⟨S16384x26, .i32⟩
  | .hbm, ⟨20, _⟩ => ⟨S26x16384, .i32⟩
  | .hbm, ⟨21, _⟩ => ⟨S26x16384x1, .i32⟩
  | .hbm, ⟨22, _⟩ => ⟨S1, .i32⟩
  | .hbm, ⟨23, _⟩ => ⟨S_, .i32⟩
  | .hbm, ⟨24, _⟩ => ⟨S26x16384x1, .i32⟩
  | .hbm, ⟨25, _⟩ => ⟨S26x16384x1, .i1⟩
  | .hbm, ⟨26, _⟩ => ⟨S1x1x1, .i32⟩
  | .hbm, ⟨27, _⟩ => ⟨S26x16384x1, .i32⟩
  | .hbm, ⟨28, _⟩ => ⟨S26x16384x1, .i1⟩
  | .hbm, ⟨29, _⟩ => ⟨S26x16384x1, .i1⟩
  | .hbm, ⟨30, _⟩ => ⟨S_, .i1⟩
  | .hbm, ⟨31, _⟩ => ⟨S26x16384, .i1⟩
  | .hbm, ⟨32, _⟩ => ⟨S26x16384x16, .f32⟩
  | .hbm, ⟨33, _⟩ => ⟨S26x16384x16, .i1⟩
  | .hbm, ⟨34, _⟩ => ⟨S_, .f32⟩
  | .hbm, ⟨35, _⟩ => ⟨S26x16384x16, .f32⟩
  | .hbm, ⟨36, _⟩ => ⟨S26x16384x16, .f32⟩
  | .hbm, ⟨37, _⟩ => ⟨S16384x26x16, .f32⟩
  | .hbm, ⟨38, _⟩ => ⟨S_, .f32⟩
  | .hbm, ⟨39, _⟩ => ⟨S16384x26, .f32⟩
  | .hbm, ⟨40, _⟩ => ⟨S_, .f32⟩
  | .hbm, ⟨41, _⟩ => ⟨S16384x16, .f32⟩
  | .hbm, ⟨42, _⟩ => ⟨S16384x16, .f32⟩
  | .hbm, ⟨43, _⟩ => ⟨S16384x26x16, .f32⟩
  | .hbm, ⟨44, _⟩ => ⟨S_, .f32⟩
  | .hbm, ⟨45, _⟩ => ⟨S16384x16, .f32⟩
  | .hbm, ⟨46, _⟩ => ⟨S16384x16, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x416, .f32⟩
  | .hbm, ⟨54, _⟩ => ⟨S16384x429, .f32⟩
  | .hbm, ⟨55, _⟩ => ⟨S16384x400, .f32⟩
  | .hbm, ⟨56, _⟩ => ⟨S1x400, .f32⟩
  | .hbm, ⟨57, _⟩ => ⟨S16384x400, .f32⟩
  | .hbm, ⟨58, _⟩ => ⟨S16384x400, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S16384x400, .f32⟩
  | .hbm, ⟨63, _⟩ => ⟨S16384x400, .f32⟩
  | .hbm, ⟨64, _⟩ => ⟨S1x400, .f32⟩
  | .hbm, ⟨65, _⟩ => ⟨S16384x400, .f32⟩
  | .hbm, ⟨66, _⟩ => ⟨S16384x400, .f32⟩
  | .hbm, ⟨67, _⟩ => ⟨S1x400, .f32⟩
  | .hbm, ⟨68, _⟩ => ⟨S16384x400, .f32⟩
  | .hbm, ⟨69, _⟩ => ⟨S16384x400, .f32⟩
  | .hbm, ⟨70, _⟩ => ⟨S_, .f32⟩
  | .hbm, ⟨71, _⟩ => ⟨S16384x400, .f32⟩
  | .hbm, ⟨72, _⟩ => ⟨S16384x400, .f32⟩
  | .hbm, ⟨73, _⟩ => ⟨S16384x400, .f32⟩
  | .hbm, ⟨74, _⟩ => ⟨S1x400, .f32⟩
  | .hbm, ⟨75, _⟩ => ⟨S16384x400, .f32⟩
  | .hbm, ⟨76, _⟩ => ⟨S16384x400, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S16384x400, .f32⟩
  | .hbm, ⟨81, _⟩ => ⟨S16384x400, .f32⟩
  | .hbm, ⟨82, _⟩ => ⟨S1x400, .f32⟩
  | .hbm, ⟨83, _⟩ => ⟨S16384x400, .f32⟩
  | .hbm, ⟨84, _⟩ => ⟨S16384x400, .f32⟩
  | .hbm, ⟨85, _⟩ => ⟨S1x400, .f32⟩
  | .hbm, ⟨86, _⟩ => ⟨S16384x400, .f32⟩
  | .hbm, ⟨87, _⟩ => ⟨S16384x400, .f32⟩
  | .hbm, ⟨88, _⟩ => ⟨S_, .f32⟩
  | .hbm, ⟨89, _⟩ => ⟨S16384x400, .f32⟩
  | .hbm, ⟨90, _⟩ => ⟨S16384x400, .f32⟩
  | .hbm, ⟨91, _⟩ => ⟨S16384x427, .f32⟩
  | .hbm, ⟨92, _⟩ => ⟨S16384x1, .f32⟩
  | .hbm, ⟨93, _⟩ => ⟨S1x1, .f32⟩
  | .hbm, ⟨94, _⟩ => ⟨S16384x1, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S_, .f32⟩
  | .hbm, ⟨102, _⟩ => ⟨S16384x1, .f32⟩
  | .hbm, ⟨103, _⟩ => ⟨S16384x1, .f32⟩
  | .hbm, ⟨104, _⟩ => ⟨S16384, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_c_1 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_c_3 : Ref sig .tc := ⟨.hbm, 30, rfl⟩
abbrev main_call0_v13 : Ref sig .tc := ⟨.hbm, 31, rfl⟩
abbrev main_call0_v14 : Ref sig .tc := ⟨.hbm, 32, rfl⟩
abbrev main_call0_v15 : Ref sig .tc := ⟨.hbm, 33, rfl⟩
abbrev main_call0_cst : Ref sig .tc := ⟨.hbm, 34, rfl⟩
abbrev main_call0_v16 : Ref sig .tc := ⟨.hbm, 35, rfl⟩
abbrev main_v0 : Ref sig .tc := ⟨.hbm, 36, rfl⟩
abbrev main_v1 : Ref sig .tc := ⟨.hbm, 37, rfl⟩
abbrev main_cst : Ref sig .tc := ⟨.hbm, 38, rfl⟩
abbrev main_v2 : Ref sig .tc := ⟨.hbm, 39, rfl⟩
abbrev main_cst_0 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_cst_1 : Ref sig .tc := ⟨.hbm, 44, rfl⟩
abbrev main_v6 : Ref sig .tc := ⟨.hbm, 45, rfl⟩
abbrev main_v7 : Ref sig .tc := ⟨.hbm, 46, rfl⟩
abbrev main_cst_2 : Ref sig .tc := ⟨.hbm, 47, rfl⟩
abbrev main_v8 : Ref sig .tc := ⟨.hbm, 48, rfl⟩
abbrev main_v9 : Ref sig .tc := ⟨.hbm, 49, rfl⟩
abbrev main_cst_3 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_4 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_cst_5 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_6 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_cst_7 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_8 : Ref sig .tc := ⟨.hbm, 98, rfl⟩
abbrev main_v53 : Ref sig .tc := ⟨.hbm, 99, rfl⟩
abbrev main_v54 : Ref sig .tc := ⟨.hbm, 100, rfl⟩
abbrev main_cst_9 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩

abbrev nD : Nat := 1
abbrev τ : Topo := Topo.v7x

variable {F : FTy → Type} [FloatOps F]
-- ==== Proof.Run.lean ====
/-
The kernel's run, with its result: after the run the result array holds what the last stretch of
host operations leaves there, and every argument array is as it was launched.
-/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the kernel's program ends, with the result array at `W9`'s contents and the
arguments unchanged. -/
theorem run : θ_run defs (onTc (τ := τ) (main (F := F))) ⟨m, fun _ => 0, ρ⟩ (fun r => ∀ c : Dev nD,
      r.2.mem ((c.tc : Thread nD τ).loc main_v106) = W9 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz c =>
      ⟨h c _ (mem_uc main_v106 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.Gen
-- ==== Proof.Region.lean ====
/-
What each of the kernel's four launches leaves in its result array: `body`, one function of the
eleven arrays the launch reads.
-/
module

public import proofs.«01_k».proof.Proof.Gen.KernelIdeal.Frame

@[expose] public section

set_option maxRecDepth 16384

noncomputable section

namespace Cert.KernelIdeal.Gen

open Idealize.ShloMosaic Idealize.ShloMosaic.TcCoe
open Idealize.SL.Sem
open Idealize.ShloMosaic.Pipeline (Dat Cfg Window)

variable {F : FTy → Type} [FloatOps F]

/-- The one launch body as a function of the arrays it reads. -/
def body (x0 : Vec F S16x106496 .f32) (x1 : Vec F S13x4096 .f32) (x2 : Vec F S400x416 .f32) (x3 : Vec F S400x13 .f32)
    (x4 : Vec F S400x1 .f32) (x5 : Vec F S400x400 .f32) (x6 : Vec F S400x1 .f32) (x7 : Vec F S17x416 .f32)
    (x8 : Vec F S1x416 .f32) (x9 : Vec F S1x400 .f32) (x10 : Vec F S1x2 .f32) : Vec F S1x4096 .f32 :=
  out0_11 x0 x1 x2 x3 x4 x5 x6 x7 x8 x9 x10

variable (V : (c : Dev nD) → (b : Ref sig .tc) → Buf (Elt F) ((c : Thread nD τ).loc b))

set_option maxHeartbeats 2000000 in
/-- Launch 0: its result array after the one grid point. -/
theorem region0 (c : Dev nD) : (dat0 V c).arrAt (11 : Fin 12) cfg0.N
    = body (V c main_v63) (V c main_v64) (V c main_v29) (V c main_v34) (V c main_v7) (V c main_v14) (V c main_v17) (V c main_v41) (V c main_v42) (V c main_v44)
        (V c main_v51) := by
  let t₀ : Fin cfg0.N := ⟨0, by decide⟩
  have ho : ((cfg0.win (11 : Fin 12)).blk t₀).view.read (Elt F) ((dat0 V c).arrAt (11 : Fin 12) cfg0.N)
      = (dat0 V c).flushed (11 : Fin 12) t₀ := by
    rw [show cfg0.N = (t₀ : Fin cfg0.N).val + 1 from rfl, (dat0 V c).arrAt_succ (11 : Fin 12) t₀]
    rw [show (cfg0.win (11 : Fin 12)).flush t₀ = true from by decide, if_pos rfl]
    exact View.read_write_univ _ _
  have hr0 := fun f => Memref.read_access_unit_zero (Elt F) main_v63
    (show (fun a => (win0_0.index t₀) a * main_v63.ty.shape.size a) = fun _ => 0 from funext fun a => by fin_cases a <;> decide)
    (fun a => by fin_cases a <;> decide) f
  have hr1 := fun f => Memref.read_access_unit_zero (Elt F) main_v64
    (show (fun a => (win0_1.index t₀) a * main_v64.ty.shape.size a) = fun _ => 0 from funext fun a => by fin_cases a <;> decide)
    (fun a => by fin_cases a <;> decide) f
  have hr2 := fun f => Memref.read_access_unit_zero (Elt F) main_v29
    (show (fun a => (win0_2.index t₀) a * main_v29.ty.shape.size a) = fun _ => 0 from funext fun a => by fin_cases a <;> decide)
    (fun a => by fin_cases a <;> decide) f
  have hr3 := fun f => Memref.read_access_unit_zero (Elt F) main_v34
    (show (fun a => (win0_3.index t₀) a * main_v34.ty.shape.size a) = fun _ => 0 from funext fun a => by fin_cases a <;> decide)
    (fun a => by fin_cases a <;> decide) f
  have hr4 := fun f => Memref.read_access_unit_zero (Elt F) main_v7
    (show (fun a => (win0_4.index t₀) a * main_v7.ty.shape.size a) = fun _ => 0 from funext fun a => by fin_cases a <;> decide)
    (fun a => by fin_cases a <;> decide) f
  have hr5 := fun f => Memref.read_access_unit_zero (Elt F) main_v14
    (show (fun a => (win0_5.index t₀) a * main_v14.ty.shape.size a) = fun _ => 0 from funext fun a => by fin_cases a <;> decide)
    (fun a => by fin_cases a <;> decide) f
  have hr6 := fun f => Memref.read_access_unit_zero (Elt F) main_v17
    (show (fun a => (win0_6.index t₀) a * main_v17.ty.shape.size a) = fun _ => 0 from funext fun a => by fin_cases a <;> decide)
    (fun a => by fin_cases a <;> decide) f
  have hr7 := fun f => Memref.read_access_unit_zero (Elt F) main_v41
    (show (fun a => (win0_7.index t₀) a * main_v41.ty.shape.size a) = fun _ => 0 from funext fun a => by fin_cases a <;> decide)
    (fun a => by fin_cases a <;> decide) f
  have hr8 := fun f => Memref.read_access_unit_zero (Elt F) main_v42
    (show (fun a => (win0_8.index t₀) a * main_v42.ty.shape.size a) = fun _ => 0 from funext fun a => by fin_cases a <;> decide)
    (fun a => by fin_cases a <;> decide) f
  have hr9 := fun f => Memref.read_access_unit_zero (Elt F) main_v44
    (show (fun a => (win0_9.index t₀) a * main_v44.ty.shape.size a) = fun _ => 0 from funext fun a => by fin_cases a <;> decide)
    (fun a => by fin_cases a <;> decide) f
  have hr10 := fun f => Memref.read_access_unit_zero (Elt F) main_v51
    (show (fun a => (win0_10.index t₀) a * main_v51.ty.shape.size a) = fun _ => 0 from funext fun a => by fin_cases a <;> decide)
    (fun a => by fin_cases a <;> decide) f
  have hr11 := fun f => Memref.read_access_unit_zero (Elt F) main_v65
    (show (fun a => (win0_11.index t₀) a * main_v65.ty.shape.size a) = fun _ => 0 from funext fun a => by fin_cases a <;> decide)
    (fun a => by fin_cases a <;> decide) f
  rw [hr11] at ho
  rw [ho]
  show (cfg0.win (11 : Fin 12)).cut _ ((dat0 V c).after 11 t₀) = _
  rw [after0_11]
  unfold iblk0
  rw [hr0, hr1, hr2, hr3, hr4, hr5, hr6, hr7, hr8, hr9, hr10]
  rfl

set_option maxHeartbeats 2000000 in
/-- Launch 1: its result array after the one grid point. -/
theorem region1 (c : Dev nD) : (dat1 V c).arrAt (11 : Fin 12) cfg1.N
    = body (V c main_v76) (V c main_v77) (V c main_v29) (V c main_v34) (V c main_v7) (V c main_v14) (V c main_v17) (V c main_v41) (V c main_v42) (V c main_v44)
        (V c main_v51) := by
  let t₀ : Fin cfg1.N := ⟨0, by decide⟩
  have ho : ((cfg1.win (11 : Fin 12)).blk t₀).view.read (Elt F) ((dat1 V c).arrAt (11 : Fin 12) cfg1.N)
      = (dat1 V c).flushed (11 : Fin 12) t₀ := by
    rw [show cfg1.N = (t₀ : Fin cfg1.N).val + 1 from rfl, (dat1 V c).arrAt_succ (11 : Fin 12) t₀]
    rw [show (cfg1.win (11 : Fin 12)).flush t₀ = true from by decide, if_pos rfl]
    exact View.read_write_univ _ _
  have hr0 := fun f => Memref.read_access_unit_zero (Elt F) main_v76
    (show (fun a => (win1_0.index t₀) a * main_v76.ty.shape.size a) = fun _ => 0 from funext fun a => by fin_cases a <;> decide)
    (fun a => by fin_cases a <;> decide) f
  have hr1 := fun f => Memref.read_access_unit_zero (Elt F) main_v77
    (show (fun a => (win1_1.index t₀) a * main_v77.ty.shape.size a) = fun _ => 0 from funext fun a => by fin_cases a <;> decide)
    (fun a => by fin_cases a <;> decide) f
  have hr2 := fun f => Memref.read_access_unit_zero (Elt F) main_v29
    (show (fun a => (win1_2.index t₀) a * main_v29.ty.shape.size a) = fun _ => 0 from funext fun a => by fin_cases a <;> decide)
    (fun a => by fin_cases a <;> decide) f
  have hr3 := fun f => Memref.read_access_unit_zero (Elt F) main_v34
    (show (fun a => (win1_3.index t₀) a * main_v34.ty.shape.size a) = fun _ => 0 from funext fun a => by fin_cases a <;> decide)
    (fun a => by fin_cases a <;> decide) f
  have hr4 := fun f => Memref.read_access_unit_zero (Elt F) main_v7
    (show (fun a => (win1_4.index t₀) a * main_v7.ty.shape.size a) = fun _ => 0 from funext fun a => by fin_cases a <;> decide)
    (fun a => by fin_cases a <;> decide) f
  have hr5 := fun f => Memref.read_access_unit_zero (Elt F) main_v14
    (show (fun a => (win1_5.index t₀) a * main_v14.ty.shape.size a) = fun _ => 0 from funext fun a => by fin_cases a <;> decide)
    (fun a => by fin_cases a <;> decide) f
  have hr6 := fun f => Memref.read_access_unit_zero (Elt F) main_v17
    (show (fun a => (win1_6.index t₀) a * main_v17.ty.shape.size a) = fun _ => 0 from funext fun a => by fin_cases a <;> decide)
    (fun a => by fin_cases a <;> decide) f
  have hr7 := fun f => Memref.read_access_unit_zero (Elt F) main_v41
    (show (fun a => (win1_7.index t₀) a * main_v41.ty.shape.size a) = fun _ => 0 from funext fun a => by fin_cases a <;> decide)
    (fun a => by fin_cases a <;> decide) f
  have hr8 := fun f => Memref.read_access_unit_zero (Elt F) main_v42
    (show (fun a => (win1_8.index t₀) a * main_v42.ty.shape.size a) = fun _ => 0 from funext fun a => by fin_cases a <;> decide)
    (fun a => by fin_cases a <;> decide) f
  have hr9 := fun f => Memref.read_access_unit_zero (Elt F) main_v44
    (show (fun a => (win1_9.index t₀) a * main_v44.ty.shape.size a) = fun _ => 0 from funext fun a => by fin_cases a <;> decide)
    (fun a => by fin_cases a <;> decide) f
  have hr10 := fun f => Memref.read_access_unit_zero (Elt F) main_v51
    (show (fun a => (win1_10.index t₀) a * main_v51.ty.shape.size a) = fun _ => 0 from funext fun a => by fin_cases a <;> decide)
    (fun a => by fin_cases a <;> decide) f
  have hr11 := fun f => Memref.read_access_unit_zero (Elt F) main_v78
    (show (fun a => (win1_11.index t₀) a * main_v78.ty.shape.size a) = fun _ => 0 from funext fun a => by fin_cases a <;> decide)
    (fun a => by fin_cases a <;> decide) f
  rw [hr11] at ho
  rw [ho]
  show (cfg1.win (11 : Fin 12)).cut _ ((dat1 V c).after 11 t₀) = _
  rw [after1_11]
  unfold iblk1
  rw [hr0, hr1, hr2, hr3, hr4, hr5, hr6, hr7, hr8, hr9, hr10]
  rfl

set_option maxHeartbeats 2000000 in
/-- Launch 2: its result array after the one grid point. -/
theorem region2 (c : Dev nD) : (dat2 V c).arrAt (11 : Fin 12) cfg2.N
    = body (V c main_v89) (V c main_v90) (V c main_v29) (V c main_v34) (V c main_v7) (V c main_v14) (V c main_v17) (V c main_v41) (V c main_v42) (V c main_v44)
        (V c main_v51) := by
  let t₀ : Fin cfg2.N := ⟨0, by decide⟩
  have ho : ((cfg2.win (11 : Fin 12)).blk t₀).view.read (Elt F) ((dat2 V c).arrAt (11 : Fin 12) cfg2.N)
      = (dat2 V c).flushed (11 : Fin 12) t₀ := by
    rw [show cfg2.N = (t₀ : Fin cfg2.N).val + 1 from rfl, (dat2 V c).arrAt_succ (11 : Fin 12) t₀]
    rw [show (cfg2.win (11 : Fin 12)).flush t₀ = true from by decide, if_pos rfl]
    exact View.read_write_univ _ _
  have hr0 := fun f => Memref.read_access_unit_zero (Elt F) main_v89
    (show (fun a => (win2_0.index t₀) a * main_v89.ty.shape.size a) = fun _ => 0 from funext fun a => by fin_cases a <;> decide)
    (fun a => by fin_cases a <;> decide) f
  have hr1 := fun f => Memref.read_access_unit_zero (Elt F) main_v90
    (show (fun a => (win2_1.index t₀) a * main_v90.ty.shape.size a) = fun _ => 0 from funext fun a => by fin_cases a <;> decide)
    (fun a => by fin_cases a <;> decide) f
  have hr2 := fun f => Memref.read_access_unit_zero (Elt F) main_v29
    (show (fun a => (win2_2.index t₀) a * main_v29.ty.shape.size a) = fun _ => 0 from funext fun a => by fin_cases a <;> decide)
    (fun a => by fin_cases a <;> decide) f
  have hr3 := fun f => Memref.read_access_unit_zero (Elt F) main_v34
    (show (fun a => (win2_3.index t₀) a * main_v34.ty.shape.size a) = fun _ => 0 from funext fun a => by fin_cases a <;> decide)
    (fun a => by fin_cases a <;> decide) f
  have hr4 := fun f => Memref.read_access_unit_zero (Elt F) main_v7
    (show (fun a => (win2_4.index t₀) a * main_v7.ty.shape.size a) = fun _ => 0 from funext fun a => by fin_cases a <;> decide)
    (fun a => by fin_cases a <;> decide) f
  have hr5 := fun f => Memref.read_access_unit_zero (Elt F) main_v14
    (show (fun a => (win2_5.index t₀) a * main_v14.ty.shape.size a) = fun _ => 0 from funext fun a => by fin_cases a <;> decide)
    (fun a => by fin_cases a <;> decide) f
  have hr6 := fun f => Memref.read_access_unit_zero (Elt F) main_v17
    (show (fun a => (win2_6.index t₀) a * main_v17.ty.shape.size a) = fun _ => 0 from funext fun a => by fin_cases a <;> decide)
    (fun a => by fin_cases a <;> decide) f
  have hr7 := fun f => Memref.read_access_unit_zero (Elt F) main_v41
    (show (fun a => (win2_7.index t₀) a * main_v41.ty.shape.size a) = fun _ => 0 from funext fun a => by fin_cases a <;> decide)
    (fun a => by fin_cases a <;> decide) f
  have hr8 := fun f => Memref.read_access_unit_zero (Elt F) main_v42
    (show (fun a => (win2_8.index t₀) a * main_v42.ty.shape.size a) = fun _ => 0 from funext fun a => by fin_cases a <;> decide)
    (fun a => by fin_cases a <;> decide) f
  have hr9 := fun f => Memref.read_access_unit_zero (Elt F) main_v44
    (show (fun a => (win2_9.index t₀) a * main_v44.ty.shape.size a) = fun _ => 0 from funext fun a => by fin_cases a <;> decide)
    (fun a => by fin_cases a <;> decide) f
  have hr10 := fun f => Memref.read_access_unit_zero (Elt F) main_v51
    (show (fun a => (win2_10.index t₀) a * main_v51.ty.shape.size a) = fun _ => 0 from funext fun a => by fin_cases a <;> decide)
    (fun a => by fin_cases a <;> decide) f
  have hr11 := fun f => Memref.read_access_unit_zero (Elt F) main_v91
    (show (fun a => (win2_11.index t₀) a * main_v91.ty.shape.size a) = fun _ => 0 from funext fun a => by fin_cases a <;> decide)
    (fun a => by fin_cases a <;> decide) f
  rw [hr11] at ho
  rw [ho]
  show (cfg2.win (11 : Fin 12)).cut _ ((dat2 V c).after 11 t₀) = _
  rw [after2_11]
  unfold iblk2
  rw [hr0, hr1, hr2, hr3, hr4, hr5, hr6, hr7, hr8, hr9, hr10]
  rfl

set_option maxHeartbeats 2000000 in
/-- Launch 3: its result array after the one grid point. -/
theorem region3 (c : Dev nD) : (dat3 V c).arrAt (11 : Fin 12) cfg3.N
    = body (V c main_v102) (V c main_v103) (V c main_v29) (V c main_v34) (V c main_v7) (V c main_v14) (V c main_v17) (V c main_v41) (V c main_v42) (V c main_v44)
        (V c main_v51) := by
  let t₀ : Fin cfg3.N := ⟨0, by decide⟩
  have ho : ((cfg3.win (11 : Fin 12)).blk t₀).view.read (Elt F) ((dat3 V c).arrAt (11 : Fin 12) cfg3.N)
      = (dat3 V c).flushed (11 : Fin 12) t₀ := by
    rw [show cfg3.N = (t₀ : Fin cfg3.N).val + 1 from rfl, (dat3 V c).arrAt_succ (11 : Fin 12) t₀]
    rw [show (cfg3.win (11 : Fin 12)).flush t₀ = true from by decide, if_pos rfl]
    exact View.read_write_univ _ _
  have hr0 := fun f => Memref.read_access_unit_zero (Elt F) main_v102
    (show (fun a => (win3_0.index t₀) a * main_v102.ty.shape.size a) = fun _ => 0 from funext fun a => by fin_cases a <;> decide)
    (fun a => by fin_cases a <;> decide) f
  have hr1 := fun f => Memref.read_access_unit_zero (Elt F) main_v103
    (show (fun a => (win3_1.index t₀) a * main_v103.ty.shape.size a) = fun _ => 0 from funext fun a => by fin_cases a <;> decide)
    (fun a => by fin_cases a <;> decide) f
  have hr2 := fun f => Memref.read_access_unit_zero (Elt F) main_v29
    (show (fun a => (win3_2.index t₀) a * main_v29.ty.shape.size a) = fun _ => 0 from funext fun a => by fin_cases a <;> decide)
    (fun a => by fin_cases a <;> decide) f
  have hr3 := fun f => Memref.read_access_unit_zero (Elt F) main_v34
    (show (fun a => (win3_3.index t₀) a * main_v34.ty.shape.size a) = fun _ => 0 from funext fun a => by fin_cases a <;> decide)
    (fun a => by fin_cases a <;> decide) f
  have hr4 := fun f => Memref.read_access_unit_zero (Elt F) main_v7
    (show (fun a => (win3_4.index t₀) a * main_v7.ty.shape.size a) = fun _ => 0 from funext fun a => by fin_cases a <;> decide)
    (fun a => by fin_cases a <;> decide) f
  have hr5 := fun f => Memref.read_access_unit_zero (Elt F) main_v14
    (show (fun a => (win3_5.index t₀) a * main_v14.ty.shape.size a) = fun _ => 0 from funext fun a => by fin_cases a <;> decide)
    (fun a => by fin_cases a <;> decide) f
  have hr6 := fun f => Memref.read_access_unit_zero (Elt F) main_v17
    (show (fun a => (win3_6.index t₀) a * main_v17.ty.shape.size a) = fun _ => 0 from funext fun a => by fin_cases a <;> decide)
    (fun a => by fin_cases a <;> decide) f
  have hr7 := fun f => Memref.read_access_unit_zero (Elt F) main_v41
    (show (fun a => (win3_7.index t₀) a * main_v41.ty.shape.size a) = fun _ => 0 from funext fun a => by fin_cases a <;> decide)
    (fun a => by fin_cases a <;> decide) f
  have hr8 := fun f => Memref.read_access_unit_zero (Elt F) main_v42
    (show (fun a => (win3_8.index t₀) a * main_v42.ty.shape.size a) = fun _ => 0 from funext fun a => by fin_cases a <;> decide)
    (fun a => by fin_cases a <;> decide) f
  have hr9 := fun f => Memref.read_access_unit_zero (Elt F) main_v44
    (show (fun a => (win3_9.index t₀) a * main_v44.ty.shape.size a) = fun _ => 0 from funext fun a => by fin_cases a <;> decide)
    (fun a => by fin_cases a <;> decide) f
  have hr10 := fun f => Memref.read_access_unit_zero (Elt F) main_v51
    (show (fun a => (win3_10.index t₀) a * main_v51.ty.shape.size a) = fun _ => 0 from funext fun a => by fin_cases a <;> decide)
    (fun a => by fin_cases a <;> decide) f
  have hr11 := fun f => Memref.read_access_unit_zero (Elt F) main_v104
    (show (fun a => (win3_11.index t₀) a * main_v104.ty.shape.size a) = fun _ => 0 from funext fun a => by fin_cases a <;> decide)
    (fun a => by fin_cases a <;> decide) f
  rw [hr11] at ho
  rw [ho]
  show (cfg3.win (11 : Fin 12)).cut _ ((dat3 V c).after 11 t₀) = _
  rw [after3_11]
  unfold iblk3
  rw [hr0, hr1, hr2, hr3, hr4, hr5, hr6, hr7, hr8, hr9, hr10]
  rfl

end Cert.KernelIdeal.Gen
-- ==== Proof.HostTerms.lean ====
/-
The arrays that the host operations prepare for the launches, as functions of the kernel's arguments,
and the statements that the buffers hold them: `W1` before the first launch, `W3`, `W5` and `W7` before
the others.
-/
module

public import proofs.«01_k».proof.Proof.Region

@[expose] public section

set_option maxRecDepth 16384

noncomputable section

namespace Cert.KernelIdeal.Gen

open Idealize.ShloMosaic Idealize.ShloMosaic.TcCoe
open Idealize.SL.Sem

variable {F : FTy → Type} [FloatOps F]

/-! ## The prepared arrays -/

/-- The reciprocal of the normalisation's square root. -/
def inv : FVec F S_ .f32 := Host.divf (constant S_ .f32 0x3F800000#32) (Host.sqrt (constant S_ .f32 0x3F800054#32))

/-- A layer's scale: the reciprocal times the layer's gain. -/
def scale (g : FVec F S400 .f32) : FVec F S400 .f32 := mulf (broadcastInDim S400 ![] bcast_S_S400 (id inv)) g

/-- A layer's folded bias, as a column. -/
def bias (b g be : FVec F S400 .f32) : FVec F S400x1 .f32 :=
  broadcastInDim S400x1 ![0] bcast_S400_S400x1_0 (addf (mulf b (scale g)) be)

/-- The second layer's folded weight, transposed. -/
def w2Host (w : FVec F S400x400 .f32) (g : FVec F S400 .f32) : FVec F S400x400 .f32 :=
  transpose S400x400 [1, 0] (mulf w (broadcastInDim S400x400 ![0, 1] bcast_S1x400_S400x400_0_1
    (broadcastInDim S1x400 ![1] bcast_S400_S1x400_1 (scale g)))) transposes_S400x400_S400x400_1_0

/-- The order in which the first layer's embedding rows are taken. -/
def perm : IVec S416 32 := fun i => lit0 (S416.rowMajor i)

/-- The same after the host's treatment of negative positions. -/
def permIdx : IVec S416 32 :=
  select (cmpi .slt perm (broadcastInDim S416 ![] bcast_S_S416 (constantI S_ 32 0#32)))
    (addi perm (broadcastInDim S416 ![] bcast_S_S416 (constantI S_ 32 416#32))) perm

/-- The first layer's folded weight on the embeddings, in the kernel's order, transposed. -/
def w1tHost (w : FVec F S429x400 .f32) (g : FVec F S400 .f32) : FVec F S400x416 .f32 :=
  transpose S400x416 [1, 0] (Host.gather gather_S416x400_S416x1_S416x400_1_0_n_n_0_1_1400
    (mulf (extractStridedSlice S416x400 ![0, 0] w slices_S429x400_S416x400_0_0)
      (broadcastInDim S416x400 ![0, 1] bcast_S1x400_S416x400_0_1 (broadcastInDim S1x400 ![1] bcast_S400_S1x400_1 (scale g))))
    (broadcastInDim S416x1 ![0] bcast_S416_S416x1_0 permIdx)) transposes_S416x400_S400x416_1_0

/-- The first layer's folded weight on the dense features, transposed. -/
def w1dHost (w : FVec F S429x400 .f32) (g : FVec F S400 .f32) : FVec F S400x13 .f32 :=
  transpose S400x13 [1, 0] (mulf (extractStridedSlice S13x400 ![416, 0] w slices_S429x400_S13x400_416_0)
      (broadcastInDim S13x400 ![0, 1] bcast_S1x400_S13x400_0_1 (broadcastInDim S1x400 ![1] bcast_S400_S1x400_1 (scale g))))
    transposes_S13x400_S400x13_1_0

/-- The linear output weights, repeated once per element. -/
def linHost (wo : FVec F S427x1 .f32) : FVec F S416 .f32 :=
  shapeCast S416 (broadcastInDim S16x26 ![0, 1] bcast_S1x26_S16x26_0_1
    (shapeCast S1x26 (shapeCast S26 (extractStridedSlice S26x1 ![0, 0] wo slices_S427x1_S26x1_0_0) shapeCasts_S26x1_S26)
      shapeCasts_S26_S1x26)) shapeCasts_S16x26_S416

/-- The constant selection matrix, its last row zero. -/
def selConst : FVec F S17x416 .f32 := fun i => FloatOps.ofBits .f32 (lit1 (S17x416.rowMajor i))

/-- The selection matrix with the linear output weights in its last row. -/
def selHost (wo : FVec F S427x1 .f32) : FVec F S17x416 .f32 :=
  Host.scatter scatter_S17x416_S1_S416_0_0_0_0 (fun _ b => b) selConst
    (broadcastInDim S1 ![] bcast_S_S1 (constantI S_ 32 16#32)) (linHost wo)

/-- A row of ones. -/
def onesHost : FVec F S1x416 .f32 := broadcastInDim S1x416 ![] bcast_S_S1x416 (constant S_ .f32 0x3F800000#32)

/-- The output weights of the second hidden layer, as a row. -/
def deepHost (wo : FVec F S427x1 .f32) : FVec F S1x400 .f32 :=
  transpose S1x400 [1, 0] (extractStridedSlice S400x1 ![27, 0] wo slices_S427x1_S400x1_27_0) transposes_S400x1_S1x400_1_0

/-- The output weight of the pairwise term and the output bias. -/
def scalHost (wo : FVec F S427x1 .f32) (bo : FVec F S1 .f32) : FVec F S1x2 .f32 :=
  broadcastInDim S1x2 ![1] bcast_S2_S1x2_1 (concatenate S2 0
    [⟨S1, broadcastInDim S1 ![] bcast_S_S1 (shapeCast S_ (extractStridedSlice S1x1 ![26, 0] wo slices_S427x1_S1x1_26_0) shapeCasts_S1x1_S_)⟩,
     ⟨S1, broadcastInDim S1 ![] bcast_S_S1 (shapeCast S_ bo shapeCasts_S1_S_)⟩] concatenates_S1_S1_S2_d0)

/-- The row numbers a slice looks up, after the host's treatment of negative ones. -/
def rowsHost (sp : IVec S4096x26 32) : IVec S4096x26 32 :=
  select (cmpi .slt sp (broadcastInDim S4096x26 ![] bcast_S_S4096x26 (constantI S_ 32 0#32)))
    (addi sp (broadcastInDim S4096x26 ![] bcast_S_S4096x26 (constantI S_ 32 100001#32))) sp

/-- A slice's embeddings: looked up, flattened and transposed. -/
def embHost (sp : IVec S4096x26 32) (tb : FVec F S26x100001x16 .f32) : FVec F S16x106496 .f32 :=
  transpose S16x106496 [1, 0] (shapeCast S106496x16
    (Host.gather gather_S26x100001x16_S26x4096x1_S26x4096x16_2_1_0_0_1_2_1116 tb
      (broadcastInDim S26x4096x1 ![0, 1] bcast_S26x4096_S26x4096x1_0_1
        (transpose S26x4096 [1, 0] (rowsHost sp) transposes_S4096x26_S26x4096_1_0)))
    shapeCasts_S26x4096x16_S106496x16) transposes_S106496x16_S16x106496_1_0

/-- The dense features, transposed. -/
def denseT (d : FVec F S16384x13 .f32) : FVec F S13x16384 .f32 :=
  transpose S13x16384 [1, 0] d transposes_S16384x13_S13x16384_1_0

variable (m : (ℓ : Loc nD τ sig) → Buf (Elt F) ℓ) (ρ : Dev nD → PrngReg) (c : Dev nD)

/-! ## Before the first launch -/

theorem W1_v29 : W1 m ρ c (Proc.devRef .tc main_v29)
    = w1tHost (m ((c : Thread nD τ).loc main_arg3)) (m ((c : Thread nD τ).loc main_arg5)) := by
  unfold W1
  after_results_simp
  rfl
theorem W1_v34 : W1 m ρ c (Proc.devRef .tc main_v34)
    = w1dHost (m ((c : Thread nD τ).loc main_arg3)) (m ((c : Thread nD τ).loc main_arg5)) := by
  unfold W1
  after_results_simp
  rfl
theorem W1_v7 : W1 m ρ c (Proc.devRef .tc main_v7)
    = bias (m ((c : Thread nD τ).loc main_arg4)) (m ((c : Thread nD τ).loc main_arg5)) (m ((c : Thread nD τ).loc main_arg6)) := by
  unfold W1
  after_results_simp
  rfl
theorem W1_v14 : W1 m ρ c (Proc.devRef .tc main_v14)
    = w2Host (m ((c : Thread nD τ).loc main_arg7)) (m ((c : Thread nD τ).loc main_arg9)) := by
  unfold W1
  after_results_simp
  rfl
theorem W1_v17 : W1 m ρ c (Proc.devRef .tc main_v17)
    = bias (m ((c : Thread nD τ).loc main_arg8)) (m ((c : Thread nD τ).loc main_arg9)) (m ((c : Thread nD τ).loc main_arg10)) := by
  unfold W1
  after_results_simp
  rfl
theorem W1_v41 : W1 m ρ c (Proc.devRef .tc main_v41)
    = selHost (m ((c : Thread nD τ).loc main_arg11)) := by
  unfold W1
  after_results_simp
  rfl
theorem W1_v42 : W1 m ρ c (Proc.devRef .tc main_v42)
    = onesHost := by
  unfold W1
  after_results_simp
  rfl
theorem W1_v44 : W1 m ρ c (Proc.devRef .tc main_v44)
    = deepHost (m ((c : Thread nD τ).loc main_arg11)) := by
  unfold W1
  after_results_simp
  rfl
theorem W1_v51 : W1 m ρ c (Proc.devRef .tc main_v51)
    = scalHost (m ((c : Thread nD τ).loc main_arg11)) (m ((c : Thread nD τ).loc main_arg12)) := by
  unfold W1
  after_results_simp
  rfl
theorem W1_v52 : W1 m ρ c (Proc.devRef .tc main_v52)
    = denseT (m ((c : Thread nD τ).loc main_arg1)) := by
  unfold W1
  after_results_simp
  rfl
theorem W1_v63 : W1 m ρ c (Proc.devRef .tc main_v63)
    = embHost (extractStridedSlice S4096x26 ![0, 0] (m ((c : Thread nD τ).loc main_arg0)) slices_S16384x26_S4096x26_0_0) (m ((c : Thread nD τ).loc main_arg2)) := by
  unfold W1
  after_results_simp
  rfl
theorem W1_v64 : W1 m ρ c (Proc.devRef .tc main_v64)
    = extractStridedSlice S13x4096 ![0, 0] (denseT (m ((c : Thread nD τ).loc main_arg1))) slices_S13x16384_S13x4096_0_0 := by
  unfold W1
  after_results_simp
  rfl

/-! ## The buffers that stay as the first stretch left them -/

/-- The buffers every launch reads, and the transposed dense features. -/
def shared : List (Ref sig .tc) := [main_v29, main_v34, main_v7, main_v14, main_v17, main_v41, main_v42, main_v44, main_v51, main_v52]

theorem shared_out0 : ∀ a ∈ shared, ∀ w : Fin cfg0.W, Pipeline.arrRef spec0 w = a → (cfg0.win w).isOut = false :=
  ListAll.forall_mem_of_all_decide (by decide +kernel)
theorem shared_host1 : ∀ a ∈ shared, a ∉ hostOps1_W :=
  ListAll.forall_mem_of_all_decide (by decide +kernel)
theorem W3_shared : ∀ a ∈ shared, W3 m ρ c (Proc.devRef .tc a) = W1 m ρ c (Proc.devRef .tc a) := fun a ha =>
  (W3_of m ρ c a (shared_host1 a ha)).trans ((W2_of m ρ c a (shared_out0 a ha)))
theorem shared_out1 : ∀ a ∈ shared, ∀ w : Fin cfg1.W, Pipeline.arrRef spec1 w = a → (cfg1.win w).isOut = false :=
  ListAll.forall_mem_of_all_decide (by decide +kernel)
theorem shared_host2 : ∀ a ∈ shared, a ∉ hostOps2_W :=
  ListAll.forall_mem_of_all_decide (by decide +kernel)
theorem W5_shared : ∀ a ∈ shared, W5 m ρ c (Proc.devRef .tc a) = W1 m ρ c (Proc.devRef .tc a) := fun a ha =>
  (W5_of m ρ c a (shared_host2 a ha)).trans ((W4_of m ρ c a (shared_out1 a ha)).trans (W3_shared m ρ c a ha))
theorem shared_out2 : ∀ a ∈ shared, ∀ w : Fin cfg2.W, Pipeline.arrRef spec2 w = a → (cfg2.win w).isOut = false :=
  ListAll.forall_mem_of_all_decide (by decide +kernel)
theorem shared_host3 : ∀ a ∈ shared, a ∉ hostOps3_W :=
  ListAll.forall_mem_of_all_decide (by decide +kernel)
theorem W7_shared : ∀ a ∈ shared, W7 m ρ c (Proc.devRef .tc a) = W1 m ρ c (Proc.devRef .tc a) := fun a ha =>
  (W7_of m ρ c a (shared_host3 a ha)).trans ((W6_of m ρ c a (shared_out2 a ha)).trans (W5_shared m ρ c a ha))

/-! ## Before the other launches -/

theorem W3_v76 : W3 m ρ c (Proc.devRef .tc main_v76)
    = embHost (extractStridedSlice S4096x26 ![4096, 0] (m ((c : Thread nD τ).loc main_arg0)) slices_S16384x26_S4096x26_4096_0) (m ((c : Thread nD τ).loc main_arg2)) := by
  rw [← W2_args m ρ c main_arg0 (by decide), ← W2_args m ρ c main_arg2 (by decide)]
  unfold W3
  after_results_simp
  rfl
theorem W3_v77 : W3 m ρ c (Proc.devRef .tc main_v77)
    = extractStridedSlice S13x4096 ![0, 4096] (denseT (m ((c : Thread nD τ).loc main_arg1))) slices_S13x16384_S13x4096_0_4096 := by
  have h : W2 m ρ c (Proc.devRef .tc main_v52) = denseT (m ((c : Thread nD τ).loc main_arg1)) :=
    (W2_of m ρ c main_v52 (shared_out0 main_v52 (by decide))).trans ((W1_v52 m ρ c))
  rw [← h]
  unfold W3
  after_results_simp
theorem W5_v89 : W5 m ρ c (Proc.devRef .tc main_v89)
    = embHost (extractStridedSlice S4096x26 ![8192, 0] (m ((c : Thread nD τ).loc main_arg0)) slices_S16384x26_S4096x26_8192_0) (m ((c : Thread nD τ).loc main_arg2)) := by
  rw [← W4_args m ρ c main_arg0 (by decide), ← W4_args m ρ c main_arg2 (by decide)]
  unfold W5
  after_results_simp
  rfl
theorem W5_v90 : W5 m ρ c (Proc.devRef .tc main_v90)
    = extractStridedSlice S13x4096 ![0, 8192] (denseT (m ((c : Thread nD τ).loc main_arg1))) slices_S13x16384_S13x4096_0_8192 := by
  have h : W4 m ρ c (Proc.devRef .tc main_v52) = denseT (m ((c : Thread nD τ).loc main_arg1)) :=
    (W4_of m ρ c main_v52 (shared_out1 main_v52 (by decide))).trans ((W3_shared m ρ c main_v52 (by decide)).trans (W1_v52 m ρ c))
  rw [← h]
  unfold W5
  after_results_simp
theorem W7_v102 : W7 m ρ c (Proc.devRef .tc main_v102)
    = embHost (extractStridedSlice S4096x26 ![12288, 0] (m ((c : Thread nD τ).loc main_arg0)) slices_S16384x26_S4096x26_12288_0) (m ((c : Thread nD τ).loc main_arg2)) := by
  rw [← W6_args m ρ c main_arg0 (by decide), ← W6_args m ρ c main_arg2 (by decide)]
  unfold W7
  after_results_simp
  rfl
theorem W7_v103 : W7 m ρ c (Proc.devRef .tc main_v103)
    = extractStridedSlice S13x4096 ![0, 12288] (denseT (m ((c : Thread nD τ).loc main_arg1))) slices_S13x16384_S13x4096_0_12288 := by
  have h : W6 m ρ c (Proc.devRef .tc main_v52) = denseT (m ((c : Thread nD τ).loc main_arg1)) :=
    (W6_of m ρ c main_v52 (shared_out2 main_v52 (by decide))).trans ((W5_shared m ρ c main_v52 (by decide)).trans (W1_v52 m ρ c))
  rw [← h]
  unfold W7
  after_results_simp

/-! ## The launches' results and the program's result -/

/-- A launch's result from its slice's two arrays and the kernel's arguments. -/
def launch (x0 : FVec F S16x106496 .f32) (x1 : FVec F S13x4096 .f32) : FVec F S1x4096 .f32 :=
  body x0 x1 (w1tHost (m ((c : Thread nD τ).loc main_arg3)) (m ((c : Thread nD τ).loc main_arg5))) (w1dHost (m ((c : Thread nD τ).loc main_arg3)) (m ((c : Thread nD τ).loc main_arg5))) (bias (m ((c : Thread nD τ).loc main_arg4)) (m ((c : Thread nD τ).loc main_arg5)) (m ((c : Thread nD τ).loc main_arg6))) (w2Host (m ((c : Thread nD τ).loc main_arg7)) (m ((c : Thread nD τ).loc main_arg9))) (bias (m ((c : Thread nD τ).loc main_arg8)) (m ((c : Thread nD τ).loc main_arg9)) (m ((c : Thread nD τ).loc main_arg10))) (selHost (m ((c : Thread nD τ).loc main_arg11))) (onesHost) (deepHost (m ((c : Thread nD τ).loc main_arg11))) (scalHost (m ((c : Thread nD τ).loc main_arg11)) (m ((c : Thread nD τ).loc main_arg12)))

/-- The four launches' results. -/
def part0 : FVec F S1x4096 .f32 := launch m c (embHost (extractStridedSlice S4096x26 ![0, 0] (m ((c : Thread nD τ).loc main_arg0)) slices_S16384x26_S4096x26_0_0) (m ((c : Thread nD τ).loc main_arg2)))
  (extractStridedSlice S13x4096 ![0, 0] (denseT (m ((c : Thread nD τ).loc main_arg1))) slices_S13x16384_S13x4096_0_0)
def part1 : FVec F S1x4096 .f32 := launch m c (embHost (extractStridedSlice S4096x26 ![4096, 0] (m ((c : Thread nD τ).loc main_arg0)) slices_S16384x26_S4096x26_4096_0) (m ((c : Thread nD τ).loc main_arg2)))
  (extractStridedSlice S13x4096 ![0, 4096] (denseT (m ((c : Thread nD τ).loc main_arg1))) slices_S13x16384_S13x4096_0_4096)
def part2 : FVec F S1x4096 .f32 := launch m c (embHost (extractStridedSlice S4096x26 ![8192, 0] (m ((c : Thread nD τ).loc main_arg0)) slices_S16384x26_S4096x26_8192_0) (m ((c : Thread nD τ).loc main_arg2)))
  (extractStridedSlice S13x4096 ![0, 8192] (denseT (m ((c : Thread nD τ).loc main_arg1))) slices_S13x16384_S13x4096_0_8192)
def part3 : FVec F S1x4096 .f32 := launch m c (embHost (extractStridedSlice S4096x26 ![12288, 0] (m ((c : Thread nD τ).loc main_arg0)) slices_S16384x26_S4096x26_12288_0) (m ((c : Thread nD τ).loc main_arg2)))
  (extractStridedSlice S13x4096 ![0, 12288] (denseT (m ((c : Thread nD τ).loc main_arg1))) slices_S13x16384_S13x4096_0_12288)

theorem W2_v65 : W2 m ρ c (Proc.devRef .tc main_v65) = part0 m c := by
  refine (W2_arr m ρ c (11 : Fin 12)).trans ((region0 (V1 m ρ) c).trans ?_)
  unfold part0 launch
  show body (W1 m ρ c (Proc.devRef .tc main_v63)) (W1 m ρ c (Proc.devRef .tc main_v64)) (W1 m ρ c (Proc.devRef .tc main_v29))
    (W1 m ρ c (Proc.devRef .tc main_v34)) (W1 m ρ c (Proc.devRef .tc main_v7)) (W1 m ρ c (Proc.devRef .tc main_v14))
    (W1 m ρ c (Proc.devRef .tc main_v17)) (W1 m ρ c (Proc.devRef .tc main_v41)) (W1 m ρ c (Proc.devRef .tc main_v42))
    (W1 m ρ c (Proc.devRef .tc main_v44)) (W1 m ρ c (Proc.devRef .tc main_v51)) = _
  rw [W1_v63, W1_v64, W1_v29, W1_v34, W1_v7, W1_v14, W1_v17, W1_v41, W1_v42, W1_v44, W1_v51]

theorem W4_v78 : W4 m ρ c (Proc.devRef .tc main_v78) = part1 m c := by
  refine (W4_arr m ρ c (11 : Fin 12)).trans ((region1 (V3 m ρ) c).trans ?_)
  unfold part1 launch
  show body (W3 m ρ c (Proc.devRef .tc main_v76)) (W3 m ρ c (Proc.devRef .tc main_v77)) (W3 m ρ c (Proc.devRef .tc main_v29))
    (W3 m ρ c (Proc.devRef .tc main_v34)) (W3 m ρ c (Proc.devRef .tc main_v7)) (W3 m ρ c (Proc.devRef .tc main_v14))
    (W3 m ρ c (Proc.devRef .tc main_v17)) (W3 m ρ c (Proc.devRef .tc main_v41)) (W3 m ρ c (Proc.devRef .tc main_v42))
    (W3 m ρ c (Proc.devRef .tc main_v44)) (W3 m ρ c (Proc.devRef .tc main_v51)) = _
  rw [W3_shared m ρ c main_v29 (by decide)]
  rw [W3_shared m ρ c main_v34 (by decide)]
  rw [W3_shared m ρ c main_v7 (by decide)]
  rw [W3_shared m ρ c main_v14 (by decide)]
  rw [W3_shared m ρ c main_v17 (by decide)]
  rw [W3_shared m ρ c main_v41 (by decide)]
  rw [W3_shared m ρ c main_v42 (by decide)]
  rw [W3_shared m ρ c main_v44 (by decide)]
  rw [W3_shared m ρ c main_v51 (by decide)]
  rw [W3_v76, W3_v77, W1_v29, W1_v34, W1_v7, W1_v14, W1_v17, W1_v41, W1_v42, W1_v44, W1_v51]

theorem W6_v91 : W6 m ρ c (Proc.devRef .tc main_v91) = part2 m c := by
  refine (W6_arr m ρ c (11 : Fin 12)).trans ((region2 (V5 m ρ) c).trans ?_)
  unfold part2 launch
  show body (W5 m ρ c (Proc.devRef .tc main_v89)) (W5 m ρ c (Proc.devRef .tc main_v90)) (W5 m ρ c (Proc.devRef .tc main_v29))
    (W5 m ρ c (Proc.devRef .tc main_v34)) (W5 m ρ c (Proc.devRef .tc main_v7)) (W5 m ρ c (Proc.devRef .tc main_v14))
    (W5 m ρ c (Proc.devRef .tc main_v17)) (W5 m ρ c (Proc.devRef .tc main_v41)) (W5 m ρ c (Proc.devRef .tc main_v42))
    (W5 m ρ c (Proc.devRef .tc main_v44)) (W5 m ρ c (Proc.devRef .tc main_v51)) = _
  rw [W5_shared m ρ c main_v29 (by decide)]
  rw [W5_shared m ρ c main_v34 (by decide)]
  rw [W5_shared m ρ c main_v7 (by decide)]
  rw [W5_shared m ρ c main_v14 (by decide)]
  rw [W5_shared m ρ c main_v17 (by decide)]
  rw [W5_shared m ρ c main_v41 (by decide)]
  rw [W5_shared m ρ c main_v42 (by decide)]
  rw [W5_shared m ρ c main_v44 (by decide)]
  rw [W5_shared m ρ c main_v51 (by decide)]
  rw [W5_v89, W5_v90, W1_v29, W1_v34, W1_v7, W1_v14, W1_v17, W1_v41, W1_v42, W1_v44, W1_v51]

theorem W8_v104 : W8 m ρ c (Proc.devRef .tc main_v104) = part3 m c := by
  refine (W8_arr m ρ c (11 : Fin 12)).trans ((region3 (V7 m ρ) c).trans ?_)
  unfold part3 launch
  show body (W7 m ρ c (Proc.devRef .tc main_v102)) (W7 m ρ c (Proc.devRef .tc main_v103)) (W7 m ρ c (Proc.devRef .tc main_v29))
    (W7 m ρ c (Proc.devRef .tc main_v34)) (W7 m ρ c (Proc.devRef .tc main_v7)) (W7 m ρ c (Proc.devRef .tc main_v14))
    (W7 m ρ c (Proc.devRef .tc main_v17)) (W7 m ρ c (Proc.devRef .tc main_v41)) (W7 m ρ c (Proc.devRef .tc main_v42))
    (W7 m ρ c (Proc.devRef .tc main_v44)) (W7 m ρ c (Proc.devRef .tc main_v51)) = _
  rw [W7_shared m ρ c main_v29 (by decide)]
  rw [W7_shared m ρ c main_v34 (by decide)]
  rw [W7_shared m ρ c main_v7 (by decide)]
  rw [W7_shared m ρ c main_v14 (by decide)]
  rw [W7_shared m ρ c main_v17 (by decide)]
  rw [W7_shared m ρ c main_v41 (by decide)]
  rw [W7_shared m ρ c main_v42 (by decide)]
  rw [W7_shared m ρ c main_v44 (by decide)]
  rw [W7_shared m ρ c main_v51 (by decide)]
  rw [W7_v102, W7_v103, W1_v29, W1_v34, W1_v7, W1_v14, W1_v17, W1_v41, W1_v42, W1_v44, W1_v51]

theorem W8_v65 : W8 m ρ c (Proc.devRef .tc main_v65) = part0 m c :=
  (W8_of m ρ c main_v65 (by decide +kernel)).trans ((W7_of m ρ c main_v65 (by decide +kernel)).trans ((W6_of m ρ c main_v65 (by decide +kernel)).trans ((W5_of m ρ c main_v65 (by decide +kernel)).trans ((W4_of m ρ c main_v65 (by decide +kernel)).trans ((W3_of m ρ c main_v65 (by decide +kernel)).trans (W2_v65 m ρ c))))))
theorem W8_v78 : W8 m ρ c (Proc.devRef .tc main_v78) = part1 m c :=
  (W8_of m ρ c main_v78 (by decide +kernel)).trans ((W7_of m ρ c main_v78 (by decide +kernel)).trans ((W6_of m ρ c main_v78 (by decide +kernel)).trans ((W5_of m ρ c main_v78 (by decide +kernel)).trans (W4_v78 m ρ c))))
theorem W8_v91 : W8 m ρ c (Proc.devRef .tc main_v91) = part2 m c :=
  (W8_of m ρ c main_v91 (by decide +kernel)).trans ((W7_of m ρ c main_v91 (by decide +kernel)).trans (W6_v91 m ρ c))

/-- The program's result: the four launches' results one after another. -/
theorem W9_v106 : W9 m ρ c (Proc.devRef .tc main_v106)
    = shapeCast S16384 (concatenate S1x16384 1 [⟨S1x4096, part0 m c⟩, ⟨S1x4096, part1 m c⟩, ⟨S1x4096, part2 m c⟩, ⟨S1x4096, part3 m c⟩]
        concatenates_S1x4096_S1x4096_S1x4096_S1x4096_S1x16384_d1) shapeCasts_S1x16384_S16384 := by
  rw [← W8_v65 m ρ c, ← W8_v78 m ρ c, ← W8_v91 m ρ c, ← W8_v104 m ρ c]
  unfold W9
  after_results_simp
  rfl

end Cert.KernelIdeal.Gen
-- ==== Proof.Law.lean ====
/-
The arithmetic law of one row. `Row` holds what one row of the batch reads: its embeddings, its
dense features and the shared weights. `refOut` is the reference's formula on a row and `kerOut`
the kernel's formula; `kerOut_eq_refOut` says that they agree when the named inputs are real.
-/
module

public import Idealize.ShloMosaic.PureOps.Ideal.Laws
public import Idealize.ShloMosaic.Lib.IdealHost

@[expose] public section

noncomputable section

namespace Cert.Law

open Idealize.ShloMosaic
open scoped BigOperators

/-! ## Constants -/

/-- One, as the programs write it. -/
def one : EReal := Ideal.ofBits .f32 0x3F800000#32
/-- One half, as the programs write it. -/
def half : EReal := Ideal.ofBits .f32 0x3F000000#32
/-- The square root of the normalisation's constant, one plus a small number. -/
def q : EReal := Ideal.sqrt (Ideal.ofBits .f32 0x3F800054#32)
/-- The reciprocal of `q`, as the kernel's program computes it. -/
def r : EReal := Ideal.div one q

theorem one_eq : one = 1 := Ideal.ofBits_one_f32

theorem half_real : ∃ x : ℝ, half = (x : EReal) := by
  refine ⟨1 / 2, ?_⟩
  simp [half, Ideal.ofBits, Ideal.ieee, -EReal.coe_mul]; norm_num

/-- The normalisation's constant is a positive real number. -/
theorem const_real : ∃ x : ℝ, 0 < x ∧ Ideal.ofBits .f32 0x3F800054#32 = (x : EReal) := by
  refine ⟨8388692 * (2 : ℝ) ^ (-23 : ℤ), by positivity, ?_⟩
  simp [Ideal.ofBits, Ideal.ieee, -EReal.coe_mul]

/-- `q` is a real number that is not zero. -/
theorem q_real : ∃ x : ℝ, x ≠ 0 ∧ q = (x : EReal) := by
  obtain ⟨x, hx, h⟩ := const_real
  refine ⟨Real.sqrt x, (Real.sqrt_pos.mpr hx).ne', ?_⟩
  rw [q, h, Ideal.sqrt_coe, if_neg (not_lt.mpr hx.le)]

theorem q_ne_zero : q ≠ 0 := by
  obtain ⟨x, hx, h⟩ := q_real
  rw [h]; exact_mod_cast hx

/-- `r` is a real number. -/
theorem r_real : ∃ x : ℝ, r = (x : EReal) := by
  obtain ⟨x, _, h⟩ := q_real
  refine ⟨x⁻¹, ?_⟩
  rw [r, one_eq, Ideal.div, if_neg q_ne_zero, one_mul, h, EReal.coe_inv]

/-- Dividing by `q` is multiplying by `r`. -/
theorem div_q (x : EReal) : Ideal.div x q = x * r := by
  rw [r, one_eq, Ideal.mul_one_div q_ne_zero]

/-! ## The two formulas -/

/-- What one row reads: embeddings `E`, dense features `d`, the two layers' weights and the
output weights. -/
structure Row where
  E : Fin 26 → Fin 16 → EReal
  d : Fin 13 → EReal
  W1 : Fin 429 → Fin 400 → EReal
  b1 : Fin 400 → EReal
  g1 : Fin 400 → EReal
  be1 : Fin 400 → EReal
  W2 : Fin 400 → Fin 400 → EReal
  b2 : Fin 400 → EReal
  g2 : Fin 400 → EReal
  be2 : Fin 400 → EReal
  Wo : Fin 427 → EReal
  bo : EReal

/-- An extended real that is a real number. -/
def IsReal (x : EReal) : Prop := ∃ y : ℝ, x = (y : EReal)

/-- The inputs the two formulas need to be real. -/
structure Row.Real (A : Row) : Prop where
  E : ∀ f e, IsReal (A.E f e)
  d : ∀ k, IsReal (A.d k)
  W1 : ∀ k j, IsReal (A.W1 k j)
  b1 : ∀ j, IsReal (A.b1 j)
  g1 : ∀ j, IsReal (A.g1 j)
  be1 : ∀ j, IsReal (A.be1 j)
  W2 : ∀ k j, IsReal (A.W2 k j)
  g2 : ∀ j, IsReal (A.g2 j)
  Wo : ∀ k : Fin 427, k.val < 26 → IsReal (A.Wo k)

namespace Row

variable (A : Row)

/-- The first layer's input: the embeddings field by field, then the dense features. -/
def deepIn (k : Fin 429) : EReal :=
  if h : k.val < 416 then A.E ⟨k.val / 16, by omega⟩ ⟨k.val % 16, by omega⟩ else A.d ⟨k.val - 416, by omega⟩

/-- The reference's first hidden layer. -/
def refH1 (j : Fin 400) : EReal :=
  max (Ideal.div ((∑ k, A.deepIn k * A.W1 k j) + A.b1 j) q * A.g1 j + A.be1 j) 0

/-- The reference's second hidden layer. -/
def refH2 (j : Fin 400) : EReal :=
  max (Ideal.div ((∑ k, A.refH1 k * A.W2 k j) + A.b2 j) q * A.g2 j + A.be2 j) 0

/-- The reference's pairwise term: half of the square of the sum less the sum of the squares. -/
def refPair : EReal :=
  half * ∑ e, ((∑ f, A.E f e) * (∑ f, A.E f e) - ∑ f, A.E f e * A.E f e)

/-- What the reference's output layer reads. -/
def refZ (k : Fin 427) : EReal :=
  if h : k.val < 26 then ∑ e, A.E ⟨k.val, h⟩ e
  else if k.val = 26 then A.refPair else A.refH2 ⟨k.val - 27, by omega⟩

/-- The reference's logit. -/
def refOut : EReal := (∑ k, A.refZ k * A.Wo k) + A.bo

/-- The embeddings in the kernel's order: element by element, and within it field by field. -/
def emb (k : Fin 416) : EReal := A.E ⟨k.val % 26, by omega⟩ ⟨k.val / 26, by omega⟩

/-- The first layer's folded weight in the kernel's order. -/
def w1t (j : Fin 400) (k : Fin 416) : EReal :=
  A.W1 ⟨k.val % 26 * 16 + k.val / 26, by omega⟩ j * (r * A.g1 j)

/-- The first layer's folded weight on the dense features. -/
def w1d (j : Fin 400) (k : Fin 13) : EReal := A.W1 ⟨416 + k.val, by omega⟩ j * (r * A.g1 j)

/-- The kernel's first hidden layer. -/
def kerH1 (j : Fin 400) : EReal :=
  max ((∑ k, A.w1t j k * A.emb k + ∑ k, A.w1d j k * A.d k) + (A.b1 j * (r * A.g1 j) + A.be1 j)) 0

/-- The kernel's second hidden layer. -/
def kerH2 (j : Fin 400) : EReal :=
  max ((∑ k, A.W2 k j * (r * A.g2 j) * A.kerH1 k) + (A.b2 j * (r * A.g2 j) + A.be2 j)) 0

/-- The selection matrix: one where column `k` belongs to element `e`. -/
def sel (e : Fin 16) (k : Fin 416) : EReal := if k.val / 26 = e.val then 1 else 0

/-- The kernel's sum over the fields of one element. -/
def kerS (e : Fin 16) : EReal := ∑ k, sel e k * A.emb k

/-- The kernel's linear term. -/
def kerLin : EReal := ∑ k : Fin 416, A.Wo ⟨k.val % 26, by omega⟩ * A.emb k

/-- The kernel's pairwise term. -/
def kerPair : EReal := half * ((∑ e, A.kerS e * A.kerS e) - ∑ k, one * (A.emb k * A.emb k))

/-- The kernel's logit. -/
def kerOut : EReal :=
  ((A.kerLin + ∑ j : Fin 400, A.Wo ⟨27 + j.val, by omega⟩ * A.kerH2 j) + A.kerPair * A.Wo ⟨26, by omega⟩) + A.bo

end Row

/-! ## Sums -/

/-- The sum of real numbers is real, and is the sum of the numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers, in the extended reals. -/
theorem coe_max (x y : ℝ) : ((max x y : ℝ) : EReal) = max (x : EReal) (y : EReal) :=
  EReal.coe_strictMono.monotone.map_max

/-- A sum over the flat index of an `m` by `n` array is the double sum. -/
theorem sum_flat {M : Type} [AddCommMonoid M] (m n : ℕ) (f : Fin (m * n) → M) :
    ∑ k, f k = ∑ a : Fin m, ∑ b : Fin n, f (finProdFinEquiv (a, b)) := by
  rw [← Equiv.sum_comp finProdFinEquiv, Fintype.sum_prod_type]

/-- A sum over `m + n` indices is the first `m` and the last `n`. -/
theorem sum_split {M : Type} [AddCommMonoid M] (m n : ℕ) (f : Fin (m + n) → M) :
    ∑ k, f k = ∑ a : Fin m, f (Fin.castAdd n a) + ∑ b : Fin n, f (Fin.natAdd m b) := Fin.sum_univ_add f

/-- The kernel's order of the embeddings: a sum over its flat index is over fields and elements. -/
theorem sum_emb {M : Type} [AddCommMonoid M] (G : ℕ → Fin 26 → Fin 16 → M) :
    ∑ k : Fin 416, G k.val ⟨k.val % 26, by omega⟩ ⟨k.val / 26, by omega⟩
      = ∑ e : Fin 16, ∑ f : Fin 26, G (f.val + 26 * e.val) f e := by
  refine (sum_flat 16 26 _).trans ?_
  refine Finset.sum_congr rfl fun e _ => Finset.sum_congr rfl fun f _ => ?_
  have h1 : (⟨(finProdFinEquiv (e, f)).val % 26, by omega⟩ : Fin 26) = f := by
    apply Fin.ext; simp [finProdFinEquiv]
  have h2 : (⟨(finProdFinEquiv (e, f)).val / 26, by omega⟩ : Fin 16) = e := by
    apply Fin.ext; simp [finProdFinEquiv]; omega
  have h3 : (finProdFinEquiv (e, f)).val = f.val + 26 * e.val := rfl
  rw [h1, h2, h3]

/-- The first layer's input summed against a function of its index: fields and elements, then the dense part. -/
theorem sum_deepIn (A : Row) (w : Fin 429 → EReal) :
    ∑ k, A.deepIn k * w k = (∑ f : Fin 26, ∑ e : Fin 16, A.E f e * w ⟨f.val * 16 + e.val, by omega⟩)
      + ∑ k : Fin 13, A.d k * w ⟨416 + k.val, by omega⟩ := by
  refine (sum_split 416 13 _).trans (congrArg₂ (· + ·) ?_ ?_)
  · refine (sum_flat 26 16 _).trans (Finset.sum_congr rfl fun f _ => Finset.sum_congr rfl fun e _ => ?_)
    have h3 : Fin.castAdd 13 (finProdFinEquiv (f, e)) = (⟨f.val * 16 + e.val, by omega⟩ : Fin 429) := by
      apply Fin.ext; simp [finProdFinEquiv]; omega
    refine congrArg₂ (· * ·) ?_ (congrArg w h3)
    rw [h3, Row.deepIn, dif_pos (show f.val * 16 + e.val < 416 by omega)]
    exact congrArg₂ A.E (Fin.ext (by show (f.val * 16 + e.val) / 16 = f.val; omega))
      (Fin.ext (by show (f.val * 16 + e.val) % 16 = e.val; omega))
  · refine Finset.sum_congr rfl fun k _ => ?_
    have h3 : Fin.natAdd 416 k = (⟨416 + k.val, by omega⟩ : Fin 429) := rfl
    rw [h3, Row.deepIn, dif_neg (show ¬ 416 + k.val < 416 by omega)]
    exact congrArg (fun i => A.d i * _) (Fin.ext (by show 416 + k.val - 416 = k.val; omega))

/-! ## The law -/

/-- A real factor distributes over a real number plus any extended real. -/
theorem add_mul_real (S s : ℝ) (b : EReal) : ((S : EReal) + b) * (s : EReal) = (S : EReal) * s + b * s := by
  induction b using EReal.rec with
  | coe b => rw [← EReal.coe_add, ← EReal.coe_mul, ← EReal.coe_mul, ← EReal.coe_mul, ← EReal.coe_add, add_mul]
  | bot =>
    rw [EReal.add_bot]
    rcases lt_trichotomy s 0 with h | h | h
    · rw [EReal.bot_mul_coe_of_neg h, ← EReal.coe_mul, EReal.coe_add_top]
    · subst h; simp
    · rw [EReal.bot_mul_coe_of_pos h, ← EReal.coe_mul, EReal.add_bot]
  | top =>
    rw [EReal.coe_add_top]
    rcases lt_trichotomy s 0 with h | h | h
    · rw [EReal.top_mul_coe_of_neg h, ← EReal.coe_mul, EReal.add_bot]
    · subst h; simp
    · rw [EReal.top_mul_coe_of_pos h, ← EReal.coe_mul, EReal.coe_add_top]

/-- A layer's normalisation, folded into the weights: the product with the scale may be taken
before or after the sum, when the sum and the scale are real. -/
theorem norm_fold (S b g be T : EReal) (hS : IsReal S) (hg : IsReal g) (hT : T = S * (r * g)) :
    Ideal.div (S + b) q * g + be = T + (b * (r * g) + be) := by
  obtain ⟨S, rfl⟩ := hS
  obtain ⟨g, rfl⟩ := hg
  obtain ⟨x, hx⟩ := r_real
  rw [hT, div_q, hx, mul_assoc, ← EReal.coe_mul, add_mul_real, add_assoc]

theorem isReal_mul {x y : EReal} (hx : IsReal x) (hy : IsReal y) : IsReal (x * y) := by
  obtain ⟨x, rfl⟩ := hx
  obtain ⟨y, rfl⟩ := hy
  exact ⟨x * y, (EReal.coe_mul x y).symm⟩

theorem isReal_add {x y : EReal} (hx : IsReal x) (hy : IsReal y) : IsReal (x + y) := by
  obtain ⟨x, rfl⟩ := hx
  obtain ⟨y, rfl⟩ := hy
  exact ⟨x + y, (EReal.coe_add x y).symm⟩

theorem isReal_max {x y : EReal} (hx : IsReal x) (hy : IsReal y) : IsReal (max x y) := by
  obtain ⟨x, rfl⟩ := hx
  obtain ⟨y, rfl⟩ := hy
  exact ⟨max x y, (coe_max x y).symm⟩

theorem isReal_zero : IsReal 0 := ⟨0, EReal.coe_zero.symm⟩

theorem isReal_r : IsReal r := r_real

theorem isReal_sum {ι : Type} (s : Finset ι) (f : ι → EReal) (h : ∀ i, IsReal (f i)) : IsReal (∑ i ∈ s, f i) := by
  choose g hg using h
  refine ⟨∑ i ∈ s, g i, ?_⟩
  rw [coe_sum]; exact Finset.sum_congr rfl fun i _ => hg i

/-- A real factor goes through a sum of real numbers. -/
theorem sum_mul_real {ι : Type} (s : Finset ι) (f : ι → EReal) (c : EReal) (h : ∀ i, IsReal (f i)) (hc : IsReal c) :
    (∑ i ∈ s, f i) * c = ∑ i ∈ s, f i * c := by
  choose g hg using h
  obtain ⟨c, rfl⟩ := hc
  obtain rfl : f = fun i => (g i : EReal) := funext hg
  rw [← coe_sum, ← EReal.coe_mul, Finset.sum_mul, coe_sum]
  exact Finset.sum_congr rfl fun i _ => EReal.coe_mul _ _

variable (A : Row) (hA : A.Real)

include hA

theorem deepIn_real (k : Fin 429) : IsReal (A.deepIn k) := by
  unfold Row.deepIn; split
  · exact hA.E _ _
  · exact hA.d _

/-- The first layer's product, with the scale folded in and in the kernel's order. -/
theorem layer1 (j : Fin 400) :
    ∑ k, A.w1t j k * A.emb k + ∑ k, A.w1d j k * A.d k = (∑ k, A.deepIn k * A.W1 k j) * (r * A.g1 j) := by
  have hs : IsReal (r * A.g1 j) := isReal_mul isReal_r (hA.g1 j)
  rw [sum_mul_real _ _ _ (fun k => isReal_mul (deepIn_real A hA k) (hA.W1 k j)) hs]
  have e1 : ∀ k, A.deepIn k * A.W1 k j * (r * A.g1 j) = A.deepIn k * (A.W1 k j * (r * A.g1 j)) := fun k => mul_assoc _ _ _
  rw [Finset.sum_congr rfl fun k _ => e1 k, sum_deepIn A (fun k => A.W1 k j * (r * A.g1 j))]
  refine congrArg₂ (· + ·) ?_ (Finset.sum_congr rfl fun k _ => mul_comm _ _)
  rw [Finset.sum_comm]
  refine (sum_emb (fun _ f e => A.W1 ⟨f.val * 16 + e.val, by omega⟩ j * (r * A.g1 j) * A.E f e)).trans ?_
  exact Finset.sum_congr rfl fun e _ => Finset.sum_congr rfl fun f _ => mul_comm _ _

/-- The two first hidden layers agree. -/
theorem h1_eq (j : Fin 400) : A.kerH1 j = A.refH1 j := by
  unfold Row.kerH1 Row.refH1
  rw [norm_fold _ _ _ _ _ (isReal_sum _ _ fun k => isReal_mul (deepIn_real A hA k) (hA.W1 k j)) (hA.g1 j) (layer1 A hA j)]

/-- The first hidden layer is real. -/
theorem h1_real (j : Fin 400) : IsReal (A.refH1 j) := by
  unfold Row.refH1
  rw [div_q]
  exact isReal_max (isReal_add (isReal_mul (isReal_mul (isReal_add
    (isReal_sum _ _ fun k => isReal_mul (deepIn_real A hA k) (hA.W1 k j)) (hA.b1 j)) isReal_r) (hA.g1 j)) (hA.be1 j)) isReal_zero

/-- The two second hidden layers agree. -/
theorem h2_eq (j : Fin 400) : A.kerH2 j = A.refH2 j := by
  unfold Row.kerH2 Row.refH2
  have hx : ∀ k, IsReal (A.refH1 k * A.W2 k j) := fun k => isReal_mul (h1_real A hA k) (hA.W2 k j)
  rw [norm_fold _ _ _ _ (∑ k, A.W2 k j * (r * A.g2 j) * A.kerH1 k) (isReal_sum _ _ hx) (hA.g2 j) ?_]
  rw [sum_mul_real _ _ _ hx (isReal_mul isReal_r (hA.g2 j))]
  refine Finset.sum_congr rfl fun k _ => ?_
  rw [h1_eq A hA k]; ac_rfl

omit hA in
/-- The kernel's sum over an element's fields is the reference's. -/
theorem kerS_eq (e : Fin 16) : A.kerS e = ∑ f, A.E f e := by
  unfold Row.kerS
  refine (sum_emb (fun k f e' => (if k / 26 = e.val then (1 : EReal) else 0) * A.E f e')).trans ?_
  rw [Finset.sum_eq_single e]
  · refine Finset.sum_congr rfl fun f _ => ?_
    rw [if_pos (by omega), one_mul]
  · intro e' _ hne
    refine Finset.sum_eq_zero fun f _ => ?_
    rw [if_neg (fun h => hne (Fin.ext (by omega))), zero_mul]
  · intro h; exact absurd (Finset.mem_univ _) h

/-- The two pairwise terms agree. -/
theorem pair_eq : A.kerPair = A.refPair := by
  unfold Row.kerPair Row.refPair
  congr 1
  rw [Finset.sum_congr rfl fun e _ => by rw [kerS_eq A e]]
  have h2 : ∑ k, one * (A.emb k * A.emb k) = ∑ e, ∑ f, A.E f e * A.E f e := by
    refine Eq.trans ?_ (sum_emb (fun _ f e => A.E f e * A.E f e))
    exact Finset.sum_congr rfl fun k _ => by rw [one_eq, one_mul]; rfl
  rw [h2]
  have hE := hA.E
  choose x hx using hE
  simp only [hx, ← EReal.coe_mul, ← coe_sum, ← EReal.coe_sub, Finset.sum_sub_distrib]

/-- The kernel's linear term, field by field. -/
theorem lin_eq : A.kerLin = ∑ f : Fin 26, (∑ e, A.E f e) * A.Wo ⟨f.val, by omega⟩ := by
  unfold Row.kerLin
  refine (sum_emb (fun _ f e => A.Wo ⟨f.val, by omega⟩ * A.E f e)).trans ?_
  rw [Finset.sum_comm]
  refine Finset.sum_congr rfl fun f _ => ?_
  rw [sum_mul_real _ _ _ (fun e => hA.E f e) (hA.Wo _ f.isLt)]
  exact Finset.sum_congr rfl fun e _ => mul_comm _ _

/-- **The law of a row**: the kernel's logit is the reference's. -/
theorem kerOut_eq_refOut : A.kerOut = A.refOut := by
  unfold Row.kerOut Row.refOut
  congr 1
  rw [lin_eq A hA, pair_eq A hA]
  have hsplit : ∑ k, A.refZ k * A.Wo k = (∑ f : Fin 26, (∑ e, A.E f e) * A.Wo ⟨f.val, by omega⟩)
      + (A.refPair * A.Wo ⟨26, by omega⟩ + ∑ j : Fin 400, A.refH2 j * A.Wo ⟨27 + j.val, by omega⟩) := by
    refine (sum_split 26 401 _).trans (congrArg₂ (· + ·) ?_ ?_)
    · refine Finset.sum_congr rfl fun f _ => ?_
      have h3 : Fin.castAdd 401 f = (⟨f.val, by omega⟩ : Fin 427) := rfl
      rw [h3, Row.refZ, dif_pos f.isLt]
    · refine (sum_split 1 400 _).trans (congrArg₂ (· + ·) ?_ ?_)
      · rw [Fin.sum_univ_one]
        have h3 : Fin.natAdd 26 (Fin.castAdd 400 (0 : Fin 1)) = (⟨26, by omega⟩ : Fin 427) := rfl
        rw [h3, Row.refZ, dif_neg (by show ¬ 26 < 26; omega), if_pos rfl]
      · refine Finset.sum_congr rfl fun j _ => ?_
        have h3 : Fin.natAdd 26 (Fin.natAdd 1 j) = (⟨27 + j.val, by omega⟩ : Fin 427) := Fin.ext (by simp; omega)
        rw [h3, Row.refZ, dif_neg (by show ¬ 27 + j.val < 26; omega), if_neg (by show ¬ 27 + j.val = 26; omega)]
        exact congrArg (fun i => A.refH2 i * _) (Fin.ext (by show 27 + j.val - 27 = j.val; omega))
  rw [hsplit, Finset.sum_congr rfl fun j _ => (by rw [h2_eq A hA j, mul_comm] :
    A.Wo ⟨27 + j.val, by omega⟩ * A.kerH2 j = A.refH2 j * A.Wo ⟨27 + j.val, by omega⟩)]
  rw [add_assoc, add_comm (∑ j : Fin 400, _)]

end Cert.Law
-- ==== Proof.Args.lean ====
/-
One row of the batch, as a function of the programs' arguments.
-/
module

public import proofs.«01_k».proof.Proof.Law
public import Idealize.ShloMosaic.Lib.ValueIdx

@[expose] public section

noncomputable section

namespace Cert.Rows

open Idealize.ShloMosaic Idealize.ShloMosaic.ValueIdx
open Cert.Law (Row)

/-- The row of a table that an index word names. -/
def row (x : BitVec 32) : Fin 100001 := ⟨min x.toNat 100000, by omega⟩

/-- An index word of the permitted range, read as a signed number, is its row. -/
theorem toInt_row (x : BitVec 32) (h : x.toNat < 100000) : x.toInt.toNat = (row x).val := by
  rw [BitVec.toInt_eq_toNat_of_lt (by omega)]
  show x.toNat = min x.toNat 100000
  omega

variable (sp : IVec ⟨2, ![16384, 26]⟩ 32) (de : FVec Ideal ⟨2, ![16384, 13]⟩ .f32) (tb : FVec Ideal ⟨3, ![26, 100001, 16]⟩ .f32)
  (w1 : FVec Ideal ⟨2, ![429, 400]⟩ .f32) (b1 g1 be1 : FVec Ideal ⟨1, ![400]⟩ .f32)
  (w2 : FVec Ideal ⟨2, ![400, 400]⟩ .f32) (b2 g2 be2 : FVec Ideal ⟨1, ![400]⟩ .f32)
  (wo : FVec Ideal ⟨2, ![427, 1]⟩ .f32) (bo : FVec Ideal ⟨1, ![1]⟩ .f32)

/-- What row `n` of the batch reads. -/
def ofArgs (n : Fin 16384) : Row where
  E f e := tb (ix3 f (row (sp (ix2 n f))) e)
  d k := de (ix2 n k)
  W1 k j := w1 (ix2 k j)
  b1 j := b1 (ix1 j)
  g1 j := g1 (ix1 j)
  be1 j := be1 (ix1 j)
  W2 k j := w2 (ix2 k j)
  b2 j := b2 (ix1 j)
  g2 j := g2 (ix1 j)
  be2 j := be2 (ix1 j)
  Wo k := wo (ix2 k 0)
  bo := bo (ix1 0)

end Cert.Rows
-- ==== Proof.Gather.lean ====
/-
Look-ups of rows read at an index: of one table by a column of positions, and of a batch of tables by a
batch of columns.
-/
module

public import Idealize.ShloMosaic.Lib.Pipeline.Value
public import Idealize.ShloMosaic.Lib.ValueIdx

@[expose] public section

set_option maxRecDepth 16384

noncomputable section

namespace Cert.Rows

open Idealize.ShloMosaic Idealize.ShloMosaic.ValueIdx
open scoped BigOperators

/-- A look-up of rows of a batch of tables: each table's row at the (clamped) index word. -/
theorem gather_rows {N : ℕ} {α : Type} (d : GatherDims ⟨3, ![26, 100001, 16]⟩ ⟨3, ![26, N, 1]⟩ ⟨3, ![26, N, 16]⟩)
    (h1 : d.offsetDims = [2]) (h2 : d.collapsedSliceDims = [1]) (h3 : d.operandBatchingDims = [0])
    (h4 : d.startIndicesBatchingDims = [0]) (h5 : d.startIndexMap = [1]) (h6 : d.indexVectorDim = 2) (h7 : d.sliceSizes = ![1, 1, 16])
    (tb : (⟨3, ![26, 100001, 16]⟩ : Shape).Idx → α) (idx : IVec ⟨3, ![26, N, 1]⟩ 32) (f : Fin 26) (n : Fin N) (e : Fin 16)
    (i : Fin 100001) (hi : (idx (ix3 f n 0)).toInt.toNat = i.val) :
    Host.gather d tb idx (ix3 f n e) = tb (ix3 f i e) := by
  obtain ⟨od, cd, ob, sb, sm, iv, ss, wf⟩ := d
  dsimp only at h1 h2 h3 h4 h5 h6 h7
  subst h1 h2 h3 h4 h5 h6 h7
  unfold Host.gather
  generalize hd : (GatherDims.mk _ _ _ _ _ _ _ wf : GatherDims ⟨3, ![26, 100001, 16]⟩ ⟨3, ![26, N, 1]⟩ ⟨3, ![26, N, 16]⟩) = d
  refine congrArg tb (funext fun a => Fin.ext ?_)
  match a with
  | ⟨0, _⟩ =>
    have s0 : d.start (ix3 f n e) idx 0 = 0 := by subst hd; exact dif_neg (show (0 : Fin 3) ∉ ([1] : List (Fin 3)) from by decide)
    have o0 : d.offCoord (ix3 f n e) 0 = 0 := by subst hd; exact dif_neg (show (0 : Fin 3) ∉ (⟨3, ![26, 100001, 16]⟩ : Shape).kept ([1] ++ [0]) from by decide)
    have b0 : d.batchCoord (ix3 f n e) 0 = f.val := by subst hd; exact (dif_pos (show (0 : Fin 3) ∈ ([0] : List (Fin 3)) from by decide)).trans rfl
    show d.start (ix3 f n e) idx 0 + d.batchCoord (ix3 f n e) 0 + d.offCoord (ix3 f n e) 0 = f.val
    omega
  | ⟨1, _⟩ =>
    have o0 : d.offCoord (ix3 f n e) 1 = 0 := by subst hd; exact dif_neg (show (1 : Fin 3) ∉ (⟨3, ![26, 100001, 16]⟩ : Shape).kept ([1] ++ [0]) from by decide)
    have b0 : d.batchCoord (ix3 f n e) 1 = 0 := by subst hd; exact dif_neg (show (1 : Fin 3) ∉ ([0] : List (Fin 3)) from by decide)
    have s0 : d.start (ix3 f n e) idx 1 = min (idx (ix3 f n 0)).toInt.toNat 100000 := by
      subst hd
      refine (dif_pos (show (1 : Fin 3) ∈ ([1] : List (Fin 3)) from by decide)).trans ?_
      refine congrArg₂ min (congrArg (fun j => (idx j).toInt.toNat) (funext fun b => Fin.ext ?_)) rfl
      match b with
      | ⟨0, _⟩ => exact (congrArg Fin.val (dif_neg (show ¬ (0 : ℕ) = 2 by omega))).trans rfl
      | ⟨1, _⟩ => exact (congrArg Fin.val (dif_neg (show ¬ (1 : ℕ) = 2 by omega))).trans rfl
      | ⟨2, _⟩ => exact (congrArg Fin.val (dif_pos rfl)).trans rfl
    show d.start (ix3 f n e) idx 1 + d.batchCoord (ix3 f n e) 1 + d.offCoord (ix3 f n e) 1 = i.val
    have := i.isLt
    omega
  | ⟨2, _⟩ =>
    have s0 : d.start (ix3 f n e) idx 2 = 0 := by subst hd; exact dif_neg (show (2 : Fin 3) ∉ ([1] : List (Fin 3)) from by decide)
    have b0 : d.batchCoord (ix3 f n e) 2 = 0 := by subst hd; exact dif_neg (show (2 : Fin 3) ∉ ([0] : List (Fin 3)) from by decide)
    have o0 : d.offCoord (ix3 f n e) 2 = e.val := by subst hd; exact (dif_pos (show (2 : Fin 3) ∈ (⟨3, ![26, 100001, 16]⟩ : Shape).kept ([1] ++ [0]) from by decide)).trans rfl
    show d.start (ix3 f n e) idx 2 + d.batchCoord (ix3 f n e) 2 + d.offCoord (ix3 f n e) 2 = e.val
    omega

/-- A look-up of rows of one table: the row at the (clamped) index word. -/
theorem take_rows {α : Type} (d : GatherDims ⟨2, ![416, 400]⟩ ⟨2, ![416, 1]⟩ ⟨2, ![416, 400]⟩)
    (h1 : d.offsetDims = [1]) (h2 : d.collapsedSliceDims = [0]) (h3 : d.operandBatchingDims = [])
    (h4 : d.startIndicesBatchingDims = []) (h5 : d.startIndexMap = [0]) (h6 : d.indexVectorDim = 1) (h7 : d.sliceSizes = ![1, 400])
    (w : (⟨2, ![416, 400]⟩ : Shape).Idx → α) (idx : IVec ⟨2, ![416, 1]⟩ 32) (k : Fin 416) (j : Fin 400)
    (i : Fin 416) (hi : (idx (ix2 k 0)).toInt.toNat = i.val) :
    Host.gather d w idx (ix2 k j) = w (ix2 i j) := by
  obtain ⟨od, cd, ob, sb, sm, iv, ss, wf⟩ := d
  dsimp only at h1 h2 h3 h4 h5 h6 h7
  subst h1 h2 h3 h4 h5 h6 h7
  unfold Host.gather
  generalize hd : (GatherDims.mk _ _ _ _ _ _ _ wf : GatherDims ⟨2, ![416, 400]⟩ ⟨2, ![416, 1]⟩ ⟨2, ![416, 400]⟩) = d
  refine congrArg w (funext fun a => Fin.ext ?_)
  match a with
  | ⟨0, _⟩ =>
    have o0 : d.offCoord (ix2 k j) 0 = 0 := by subst hd; exact dif_neg (show (0 : Fin 2) ∉ (⟨2, ![416, 400]⟩ : Shape).kept ([0] ++ []) from by decide)
    have b0 : d.batchCoord (ix2 k j) 0 = 0 := by subst hd; exact dif_neg (show (0 : Fin 2) ∉ ([] : List (Fin 2)) from by decide)
    have s0 : d.start (ix2 k j) idx 0 = min (idx (ix2 k 0)).toInt.toNat 415 := by
      subst hd
      refine (dif_pos (show (0 : Fin 2) ∈ ([0] : List (Fin 2)) from by decide)).trans ?_
      refine congrArg₂ min (congrArg (fun j => (idx j).toInt.toNat) (funext fun b => Fin.ext ?_)) rfl
      match b with
      | ⟨0, _⟩ => exact (congrArg Fin.val (dif_neg (show ¬ (0 : ℕ) = 1 by omega))).trans rfl
      | ⟨1, _⟩ => exact (congrArg Fin.val (dif_pos rfl)).trans rfl
    show d.start (ix2 k j) idx 0 + d.batchCoord (ix2 k j) 0 + d.offCoord (ix2 k j) 0 = i.val
    have := i.isLt
    omega
  | ⟨1, _⟩ =>
    have s0 : d.start (ix2 k j) idx 1 = 0 := by subst hd; exact dif_neg (show (1 : Fin 2) ∉ ([0] : List (Fin 2)) from by decide)
    have b0 : d.batchCoord (ix2 k j) 1 = 0 := by subst hd; exact dif_neg (show (1 : Fin 2) ∉ ([] : List (Fin 2)) from by decide)
    have o0 : d.offCoord (ix2 k j) 1 = j.val := by subst hd; exact (dif_pos (show (1 : Fin 2) ∈ (⟨2, ![416, 400]⟩ : Shape).kept ([0] ++ []) from by decide)).trans rfl
    show d.start (ix2 k j) idx 1 + d.batchCoord (ix2 k j) 1 + d.offCoord (ix2 k j) 1 = j.val
    omega

/-- A position with its sign bit clear, read as a signed number. -/
theorem toInt_toNat (x : BitVec 32) (h : x.toNat < 2 ^ 31) : x.toInt.toNat = x.toNat := by
  rw [BitVec.toInt_eq_toNat_of_lt (by omega)]
  rfl

end Cert.Rows
-- ==== Proof.HostRead.lean ====
/-
The arrays that the host operations prepare, read at an index over the ideal numbers.
-/
module

public import proofs.«01_k».proof.Proof.HostTerms
public import proofs.«01_k».proof.Proof.Args
public import proofs.«01_k».proof.Proof.Gather
public import Idealize.ShloMosaic.Lib.Routing.OpsSet
public import Idealize.ShloMosaic.Lib.Pipeline.Value
public import Idealize.ShloMosaic.Lib.ValueIdx
public import Idealize.ShloMosaic.PureOps.Ideal.Laws

@[expose] public section

set_option maxRecDepth 16384

noncomputable section

namespace Cert.HostRead

open Idealize.ShloMosaic Idealize.ShloMosaic.ValueIdx
open Cert.KernelIdeal Cert.KernelIdeal.Gen
open Cert

/-- A layer's scale at a unit. -/
theorem scale_apply (g : FVec Ideal S400 .f32) (j : Fin 400) : scale g (ix1 j) = Law.r * g (ix1 j) := by
  unfold scale
  exact congrArg (· * g (ix1 j)) (broadcastInDim_apply ![] bcast_S_S400 _ (ix1 j) ix0 (fun a => a.elim0))

/-- A layer's scale spread over `R` rows. -/
theorem scaleRows_apply {R : ℕ} (hb : S1x400.BroadcastsInDim ⟨2, ![R, 400]⟩ ![0, 1]) (g : FVec Ideal S400 .f32) (k : Fin R) (j : Fin 400) :
    broadcastInDim ⟨2, ![R, 400]⟩ ![0, 1] hb (broadcastInDim S1x400 ![1] bcast_S400_S1x400_1 (scale g)) (ix2 k j) = Law.r * g (ix1 j) := by
  refine (broadcastInDim_apply _ hb _ (ix2 k j) (ix2 0 j) (fun a => ?_)).trans
    ((broadcastInDim_apply _ bcast_S400_S1x400_1 _ (ix2 0 j) (ix1 j) (fun a => ?_)).trans (scale_apply g j))
  · match a with
    | ⟨0, _⟩ => rfl
    | ⟨1, _⟩ => rfl
  · match a with
    | ⟨0, _⟩ => rfl

/-- A layer's folded bias. -/
theorem bias_apply (b g be : FVec Ideal S400 .f32) (j : Fin 400) :
    bias b g be (ix2 j 0) = b (ix1 j) * (Law.r * g (ix1 j)) + be (ix1 j) := by
  unfold bias
  refine (broadcastInDim_apply _ bcast_S400_S400x1_0 _ (ix2 j 0) (ix1 j) (fun a => ?_)).trans ?_
  · match a with
    | ⟨0, _⟩ => rfl
  · exact congrArg (fun s => b (ix1 j) * s + be (ix1 j)) (scale_apply g j)

/-- The second layer's folded weight. -/
theorem w2Host_apply (w : FVec Ideal S400x400 .f32) (g : FVec Ideal S400 .f32) (j k : Fin 400) :
    w2Host w g (ix2 j k) = w (ix2 k j) * (Law.r * g (ix1 j)) := by
  unfold w2Host
  refine (transpose_apply _ _ transposes_S400x400_S400x400_1_0 (ix2 j k) (ix2 k j) (fun b => ?_)).trans ?_
  · match b with
    | ⟨0, _⟩ => rfl
    | ⟨1, _⟩ => rfl
  · exact congrArg (w (ix2 k j) * ·) (scaleRows_apply bcast_S1x400_S400x400_0_1 g k j)

/-- The first layer's folded weight on the dense features. -/
theorem w1dHost_apply (w : FVec Ideal S429x400 .f32) (g : FVec Ideal S400 .f32) (j : Fin 400) (k : Fin 13) :
    w1dHost w g (ix2 j k) = w (ix2 ⟨416 + k.val, by omega⟩ j) * (Law.r * g (ix1 j)) := by
  unfold w1dHost
  refine (transpose_apply _ _ transposes_S13x400_S400x13_1_0 (ix2 j k) (ix2 k j) (fun b => ?_)).trans ?_
  · match b with
    | ⟨0, _⟩ => rfl
    | ⟨1, _⟩ => rfl
  · refine congrArg₂ (· * ·) (extractStridedSlice_apply _ _ slices_S429x400_S13x400_416_0 (ix2 k j) (ix2 ⟨416 + k.val, by omega⟩ j) (fun a => ?_))
      (scaleRows_apply bcast_S1x400_S13x400_0_1 g k j)
    match a with
    | ⟨0, _⟩ => rfl
    | ⟨1, _⟩ => exact (Nat.zero_add _).symm

/-- The table of positions, entry by entry. -/
theorem lit0_eq : ∀ k : Fin 416, lit0 k = BitVec.ofNat 32 (k.val % 26 * 16 + k.val / 26) := by decide +kernel

/-- A position as a number. -/
theorem pos_toNat (k : Fin 416) : (BitVec.ofNat 32 (k.val % 26 * 16 + k.val / 26)).toNat = k.val % 26 * 16 + k.val / 26 := by
  rw [BitVec.toNat_ofNat]
  exact Nat.mod_eq_of_lt (by omega)

/-- The position the host uses for row `k`. -/
theorem permIdx_apply (k : Fin 416) : permIdx (ix1 k) = BitVec.ofNat 32 (k.val % 26 * 16 + k.val / 26) := by
  have hp : perm (ix1 k) = BitVec.ofNat 32 (k.val % 26 * 16 + k.val / 26) := by
    refine Eq.trans (congrArg lit0 (Fin.ext ?_)) (lit0_eq k)
    exact Shape.rowMajor_val_one _
  refine Eq.trans ?_ hp
  unfold permIdx
  refine Eq.trans ?_ (Routing.wrap_of_lt (perm (ix1 k)) (perm (ix1 k) + 416#32) ?_)
  · rfl
  · rw [hp, pos_toNat]; omega

/-- The first layer's folded weight on the embeddings. -/
theorem w1tHost_apply (w : FVec Ideal S429x400 .f32) (g : FVec Ideal S400 .f32) (j : Fin 400) (k : Fin 416) :
    w1tHost w g (ix2 j k) = w (ix2 ⟨k.val % 26 * 16 + k.val / 26, by omega⟩ j) * (Law.r * g (ix1 j)) := by
  unfold w1tHost
  refine (transpose_apply _ _ transposes_S416x400_S400x416_1_0 (ix2 j k) (ix2 k j) (fun b => ?_)).trans ?_
  · match b with
    | ⟨0, _⟩ => rfl
    | ⟨1, _⟩ => rfl
  · have hi : (broadcastInDim S416x1 ![0] bcast_S416_S416x1_0 permIdx (ix2 k 0)).toInt.toNat = k.val % 26 * 16 + k.val / 26 := by
      rw [broadcastInDim_apply _ bcast_S416_S416x1_0 permIdx (ix2 k 0) (ix1 k) (fun a => by
        match a with
        | ⟨0, _⟩ => rfl), permIdx_apply, Rows.toInt_toNat, pos_toNat]
      rw [pos_toNat]; omega
    refine (Rows.take_rows gather_S416x400_S416x1_S416x400_1_0_n_n_0_1_1400 rfl rfl rfl rfl rfl rfl rfl _ _ k j
      ⟨k.val % 26 * 16 + k.val / 26, by omega⟩ hi).trans ?_
    refine congrArg₂ (· * ·) (extractStridedSlice_apply _ _ slices_S429x400_S416x400_0_0 _ (ix2 ⟨k.val % 26 * 16 + k.val / 26, by omega⟩ j) (fun a => ?_))
      (scaleRows_apply bcast_S1x400_S416x400_0_1 g _ j)
    match a with
    | ⟨0, _⟩ => exact (Nat.zero_add _).symm
    | ⟨1, _⟩ => exact (Nat.zero_add _).symm

/-- The linear output weights, repeated. -/
theorem linHost_apply (wo : FVec Ideal S427x1 .f32) (k : Fin 416) : linHost wo (ix1 k) = wo (ix2 ⟨k.val % 26, by omega⟩ 0) := by
  unfold linHost
  refine (shapeCast_apply _ shapeCasts_S16x26_S416 (ix1 k) (ix2 (⟨k.val / 26, by omega⟩ : Fin 16) (⟨k.val % 26, by omega⟩ : Fin 26)) ?_).trans ?_
  · rw [Shape.rowMajor_val_two, Shape.rowMajor_val_one]
    show k.val / 26 * 26 + k.val % 26 = k.val
    omega
  refine (broadcastInDim_apply _ bcast_S1x26_S16x26_0_1 _ _ (ix2 0 (⟨k.val % 26, by omega⟩ : Fin 26)) (fun a => ?_)).trans ?_
  · match a with
    | ⟨0, _⟩ => rfl
    | ⟨1, _⟩ => rfl
  refine (shapeCast_apply _ shapeCasts_S26_S1x26 _ (ix1 (⟨k.val % 26, by omega⟩ : Fin 26)) ?_).trans ?_
  · rw [Shape.rowMajor_val_two, Shape.rowMajor_val_one]
    show k.val % 26 = 0 * 26 + k.val % 26
    omega
  refine (shapeCast_apply _ shapeCasts_S26x1_S26 _ (ix2 (⟨k.val % 26, by omega⟩ : Fin 26) 0) ?_).trans ?_
  · rw [Shape.rowMajor_val_two, Shape.rowMajor_val_one]
    show k.val % 26 * 1 + 0 = k.val % 26
    omega
  refine extractStridedSlice_apply _ _ slices_S427x1_S26x1_0_0 _ _ (fun a => ?_)
  match a with
  | ⟨0, _⟩ => exact (Nat.zero_add _).symm
  | ⟨1, _⟩ => rfl

/-- A row of ones. -/
theorem onesHost_apply (k : Fin 416) : onesHost (F := Ideal) (ix2 0 k) = Law.one := rfl

/-- The output weights of the second hidden layer. -/
theorem deepHost_apply (wo : FVec Ideal S427x1 .f32) (j : Fin 400) : deepHost wo (ix2 0 j) = wo (ix2 ⟨27 + j.val, by omega⟩ 0) := by
  unfold deepHost
  refine (transpose_apply _ _ transposes_S400x1_S1x400_1_0 (ix2 0 j) (ix2 j 0) (fun b => ?_)).trans ?_
  · match b with
    | ⟨0, _⟩ => rfl
    | ⟨1, _⟩ => rfl
  refine extractStridedSlice_apply _ _ slices_S427x1_S400x1_27_0 _ _ (fun a => ?_)
  match a with
  | ⟨0, _⟩ => rfl
  | ⟨1, _⟩ => rfl

/-- The output weight of the pairwise term. -/
theorem scalHost_zero (wo : FVec Ideal S427x1 .f32) (bo : FVec Ideal S1 .f32) : scalHost wo bo (ix2 0 0) = wo (ix2 26 0) := by
  unfold scalHost
  refine (broadcastInDim_apply _ bcast_S2_S1x2_1 _ (ix2 0 0) (ix1 0) (fun a => ?_)).trans ?_
  · match a with
    | ⟨0, _⟩ => rfl
  refine (concatenate_pair_apply_left 0 _ _ concatenates_S1_S1_S2_d0 (ix1 0) rfl (ix1 0) (fun b => ?_)).trans ?_
  · match b with
    | ⟨0, _⟩ => rfl
  refine (broadcastInDim_apply _ bcast_S_S1 _ (ix1 0) ix0 (fun a => a.elim0)).trans ?_
  refine (shapeCast_apply _ shapeCasts_S1x1_S_ ix0 (ix2 0 0) ?_).trans ?_
  · exact (Shape.rowMajor_val_two _).trans (by rfl)
  refine extractStridedSlice_apply _ _ slices_S427x1_S1x1_26_0 _ _ (fun a => ?_)
  match a with
  | ⟨0, _⟩ => rfl
  | ⟨1, _⟩ => rfl

/-- The output bias. -/
theorem scalHost_one (wo : FVec Ideal S427x1 .f32) (bo : FVec Ideal S1 .f32) : scalHost wo bo (ix2 0 1) = bo (ix1 0) := by
  unfold scalHost
  refine (broadcastInDim_apply _ bcast_S2_S1x2_1 _ (ix2 0 1) (ix1 1) (fun a => ?_)).trans ?_
  · match a with
    | ⟨0, _⟩ => rfl
  refine (concatenate_pair_apply_right 0 _ _ concatenates_S1_S1_S2_d0 (ix1 1) rfl rfl (ix1 0) (fun b hb => ?_) rfl).trans ?_
  · match b with
    | ⟨0, _⟩ => exact absurd rfl hb
  refine (broadcastInDim_apply _ bcast_S_S1 _ (ix1 0) ix0 (fun a => a.elim0)).trans ?_
  refine shapeCast_apply _ shapeCasts_S1_S_ ix0 (ix1 0) ?_
  exact (Shape.rowMajor_val_one _).trans (by rfl)

/-- The dense features of a slice of `4096` rows from row `o`. -/
theorem denseT_apply (x : FVec Ideal S16384x13 .f32) (o : ℕ) (h : S13x16384.Slices ![0, o] S13x4096) (k : Fin 13) (n : Fin 4096)
    (hn : o + n.val < 16384) :
    extractStridedSlice S13x4096 ![0, o] (denseT x) h (ix2 k n) = x (ix2 ⟨o + n.val, hn⟩ k) := by
  refine (extractStridedSlice_apply _ _ h (ix2 k n) (ix2 k ⟨o + n.val, hn⟩) (fun a => ?_)).trans ?_
  · match a with
    | ⟨0, _⟩ => exact (Nat.zero_add _).symm
    | ⟨1, _⟩ => rfl
  · unfold denseT
    refine transpose_apply _ _ transposes_S16384x13_S13x16384_1_0 _ _ (fun b => ?_)
    match b with
    | ⟨0, _⟩ => rfl
    | ⟨1, _⟩ => rfl

/-- A slice's embeddings: element `e` of field `f` of row `n`. -/
theorem embHost_apply (sp : IVec S4096x26 32) (tb : FVec Ideal S26x100001x16 .f32) (f : Fin 26) (n : Fin 4096) (e : Fin 16)
    (h : (sp (ix2 n f)).toNat < 100000) :
    embHost sp tb (ix2 e ⟨f.val * 4096 + n.val, by omega⟩) = tb (ix3 f (Rows.row (sp (ix2 n f))) e) := by
  unfold embHost
  refine (transpose_apply _ _ transposes_S106496x16_S16x106496_1_0 _ (ix2 (⟨f.val * 4096 + n.val, by omega⟩ : Fin 106496) e) (fun b => ?_)).trans ?_
  · match b with
    | ⟨0, _⟩ => rfl
    | ⟨1, _⟩ => rfl
  refine (shapeCast_apply _ shapeCasts_S26x4096x16_S106496x16 _ (ix3 f n e) ?_).trans ?_
  · rw [Shape.rowMajor_val_two, Shape.rowMajor_val_three]
    rfl
  refine Rows.gather_rows gather_S26x100001x16_S26x4096x1_S26x4096x16_2_1_0_0_1_2_1116 rfl rfl rfl rfl rfl rfl rfl _ _ f n e _ ?_
  have hr : rowsHost sp (ix2 n f) = sp (ix2 n f) := by
    refine Eq.trans ?_ (Routing.wrap_of_lt (sp (ix2 n f)) (sp (ix2 n f) + 100001#32) (by omega))
    rfl
  rw [broadcastInDim_apply _ bcast_S26x4096_S26x4096x1_0_1 _ (ix3 f n 0) (ix2 f n) (fun a => by
      match a with
      | ⟨0, _⟩ => rfl
      | ⟨1, _⟩ => rfl),
    transpose_apply _ _ transposes_S4096x26_S26x4096_1_0 (ix2 f n) (ix2 n f) (fun b => by
      match b with
      | ⟨0, _⟩ => rfl
      | ⟨1, _⟩ => rfl), hr, Rows.toInt_row _ h]

/-! ## The selection matrix -/

/-- Its constant part, one row per element. -/
theorem lit1_eq : ∀ (e : Fin 16) (k : Fin 416), lit1 ⟨e.val * 416 + k.val, by omega⟩ = if k.val / 26 = e.val then 0x3F800000#32 else 0x00000000#32 := by
  decide +kernel

/-- Where an update of the last row lands. -/
theorem lands (k : S416.Idx) (ι : S17x416.Idx) :
    (scatter_S17x416_S1_S416_0_0_0_0).resultIdx? k (broadcastInDim S1 ![] bcast_S_S1 (constantI S_ 32 16#32)) = some ι
      ↔ (ι 0).val = 16 ∧ (ι 1).val = (k 0).val := by
  rw [Routing.resultIdx?_eq_some]
  have s0 : (scatter_S17x416_S1_S416_0_0_0_0).start k (broadcastInDim S1 ![] bcast_S_S1 (constantI S_ 32 16#32)) 0 = 16 :=
    (dif_pos (show (0 : Fin 2) ∈ ([0] : List (Fin 2)) from by decide)).trans rfl
  have s1 : (scatter_S17x416_S1_S416_0_0_0_0).start k (broadcastInDim S1 ![] bcast_S_S1 (constantI S_ 32 16#32)) 1 = 0 :=
    dif_neg (show (1 : Fin 2) ∉ ([0] : List (Fin 2)) from by decide)
  have w0 : (scatter_S17x416_S1_S416_0_0_0_0).window k 0 = 0 :=
    dif_neg (show (0 : Fin 2) ∉ S17x416.kept [0] from by decide)
  have w1 : (scatter_S17x416_S1_S416_0_0_0_0).window k 1 = (k 0).val :=
    (dif_pos (show (1 : Fin 2) ∈ S17x416.kept [0] from by decide)).trans rfl
  constructor
  · intro h
    have h0 := h 0
    have h1 := h 1
    rw [s0, w0] at h0
    rw [s1, w1] at h1
    constructor <;> omega
  · rintro ⟨h0, h1⟩ a
    match a with
    | ⟨0, _⟩ =>
      refine (congrArg₂ (fun (s : Int) (w : ℕ) => s + (w : Int)) s0 w0).trans ?_
      show _ = ((ι 0).val : Int)
      omega
    | ⟨1, _⟩ =>
      refine (congrArg₂ (fun (s : Int) (w : ℕ) => s + (w : Int)) s1 w1).trans ?_
      show _ = ((ι 1).val : Int)
      omega

/-- The last row holds the linear output weights. -/
theorem selHost_last (wo : FVec Ideal S427x1 .f32) (k : Fin 416) : selHost wo (ix2 16 k) = wo (ix2 ⟨k.val % 26, by omega⟩ 0) := by
  unfold selHost
  refine Routing.scatter_set_hit _ _ _ _ (ix2 16 k) _ (fun k' h' => ?_) (ix1 k) ((lands _ _).2 ⟨rfl, rfl⟩)
  have h1 := ((lands _ _).1 h').2
  have e : k' = ix1 k := funext fun a => Fin.ext (by
    match a with
    | ⟨0, _⟩ => exact h1.symm)
  rw [e, linHost_apply]

/-- The other rows are the constant ones. -/
theorem selHost_row (wo : FVec Ideal S427x1 .f32) (e : Fin 16) (k : Fin 416) :
    selHost wo (ix2 ⟨e.val, by omega⟩ k) = if k.val / 26 = e.val then (1 : EReal) else 0 := by
  unfold selHost
  refine (Routing.scatter_set_miss _ _ _ _ _ (fun k' h' => ?_)).trans ?_
  · have h0 : e.val = 16 := ((lands _ _).1 h').1
    have := e.isLt
    omega
  · have hp : S17x416.rowMajor (ix2 (⟨e.val, by omega⟩ : Fin 17) k) = (⟨e.val * 416 + k.val, by omega⟩ : Fin 7072) :=
      Fin.ext (Shape.rowMajor_val_two _)
    refine (congrArg (fun p => Ideal.ofBits .f32 (lit1 p)) hp).trans ?_
    show Ideal.ofBits .f32 (lit1 ⟨e.val * 416 + k.val, _⟩) = _
    rw [lit1_eq e k]
    split
    · exact Ideal.ofBits_one_f32
    · exact Ideal.ofBits_zero_f32

end Cert.HostRead
-- ==== Proof.Body.lean ====
/-
One launch read at one column of its result: when the arrays it reads hold the row's inputs and the
folded weights, the column is the logistic of the kernel's logit of that row.
-/
module

public import proofs.«01_k».proof.Proof.Region
public import proofs.«01_k».proof.Proof.Law
public import Idealize.ShloMosaic.Lib.Pipeline.Value
public import Idealize.ShloMosaic.Lib.ValueIdx
public import Idealize.ShloMosaic.PureOps.Ideal.Laws

@[expose] public section

set_option maxRecDepth 16384

noncomputable section

namespace Cert.Body

open Idealize.ShloMosaic Idealize.ShloMosaic.ValueIdx
open Cert.KernelIdeal Cert.KernelIdeal.Gen
open Cert.Law (Row)
open scoped BigOperators

/-- A plain matrix product into a zero accumulator, read at row `i` and column `j`. -/
theorem matmul_plain {M K N : ℕ} (d : DotDims ⟨2, ![M, K]⟩ ⟨2, ![K, N]⟩ ⟨2, ![M, N]⟩) (hd : d = DotDims.plain M K N)
    (x : FVec Ideal ⟨2, ![M, K]⟩ .f32) (y : FVec Ideal ⟨2, ![K, N]⟩ .f32) (i : Fin M) (j : Fin N) :
    matmul d none x y (constant ⟨2, ![M, N]⟩ .f32 0x00000000#32) (ix2 i j) = ∑ k : Fin K, x (ix2 i k) * y (ix2 k j) := by
  subst hd
  refine (Ideal.matmul_constant_zero_apply _ _ _ _ _).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact hk)
  have er : (DotDims.plain M K N).rhsIdx (ix2 i j) ((contrEquiv1 (DotDims.plain M K N) K rfl rfl).symm k) = ix2 k j :=
    funext fun a => Fin.ext (by
      match a with
      | ⟨0, _⟩ => exact hk
      | ⟨1, _⟩ => rfl)
  rw [el, er]

/-- The embeddings' block, read in the order the products use: flat row `k`, column `n`. -/
theorem pay2_apply (x0 : Vec Ideal S16x106496 .f32) (k : Fin 416) (n : Fin 4096) :
    k0_pay2 (F := Ideal) x0 (ix2 k n) = x0 (ix2 ⟨k.val / 26, by omega⟩ ⟨k.val % 26 * 4096 + n.val, by omega⟩) := by
  unfold k0_pay2
  simp only [shapeCast_self]
  refine shapeCast_apply _ _ _ _ ?_
  rw [Shape.rowMajor_val_two, Shape.rowMajor_val_two]
  show k.val / 26 * 106496 + (k.val % 26 * 4096 + n.val) = k.val * 4096 + n.val
  omega

/-- A column vector spread over the columns. -/
theorem spread_apply (x : FVec Ideal S400x1 .f32) (j : Fin 400) (n : Fin 4096) :
    broadcastTo S400x4096 x broadcasts_S400x1_S400x4096 (ix2 j n) = x (ix2 j 0) := by
  refine broadcastTo_apply x _ _ _ fun a => ?_
  match a with
  | ⟨0, _⟩ => rfl
  | ⟨1, _⟩ => rfl

/-- The body's loads and its one store are of whole arrays, but for the two scalars. -/
theorem body_eq (x0 : Vec Ideal S16x106496 .f32) (x1 : Vec Ideal S13x4096 .f32) (x2 : Vec Ideal S400x416 .f32) (x3 : Vec Ideal S400x13 .f32)
    (x4 : Vec Ideal S400x1 .f32) (x5 : Vec Ideal S400x400 .f32) (x6 : Vec Ideal S400x1 .f32) (x7 : Vec Ideal S17x416 .f32)
    (x8 : Vec Ideal S1x416 .f32) (x9 : Vec Ideal S1x400 .f32) (x10 : Vec Ideal S1x2 .f32) :
    body x0 x1 x2 x3 x4 x5 x6 x7 x8 x9 x10
      = k0_pay1 (k0_pay3 x0 x2 x3 x1 x4 x5 x6) (k0_pay5 x0 x7) (k0_pay6 x0 x7) (k0_pay7 x8) (k0_pay8 x0)
          (constant S1x4096 .f32 0x00000000#32) x9 (View.ld x10 r0_9) (View.ld x10 r0_10) := by
  have hz : (![0, 0] : Fin 2 → Nat) = fun _ => 0 := funext fun a => by fin_cases a <;> rfl
  unfold body out0_11
  rw [View.canon_unit_zero hz]
  rw [View.ld_unit_zero (S := S16x106496) hz, View.ld_unit_zero (S := S13x4096) hz, View.ld_unit_zero (S := S400x416) hz,
    View.ld_unit_zero (S := S400x13) hz, View.ld_unit_zero (S := S400x1) hz, View.ld_unit_zero (S := S400x400) hz,
    View.ld_unit_zero (S := S400x1) hz, View.ld_unit_zero (S := S17x416) hz, View.ld_unit_zero (S := S1x416) hz,
    View.ld_unit_zero (S := S1x400) hz]

variable (A : Row) (n : Fin 4096)

/-- The second hidden layer at one column. -/
theorem hidden_apply (x0 : Vec Ideal S16x106496 .f32) (x1 : Vec Ideal S13x4096 .f32) (x2 : Vec Ideal S400x416 .f32) (x3 : Vec Ideal S400x13 .f32)
    (x4 : Vec Ideal S400x1 .f32) (x5 : Vec Ideal S400x400 .f32) (x6 : Vec Ideal S400x1 .f32)
    (h0 : ∀ k : Fin 416, x0 (ix2 ⟨k.val / 26, by omega⟩ ⟨k.val % 26 * 4096 + n.val, by omega⟩) = A.emb k)
    (h1 : ∀ k, x1 (ix2 k n) = A.d k) (h2 : ∀ j k, x2 (ix2 j k) = A.w1t j k) (h3 : ∀ j k, x3 (ix2 j k) = A.w1d j k)
    (h4 : ∀ j, x4 (ix2 j 0) = A.b1 j * (Cert.Law.r * A.g1 j) + A.be1 j)
    (h5 : ∀ j k, x5 (ix2 j k) = A.W2 k j * (Cert.Law.r * A.g2 j))
    (h6 : ∀ j, x6 (ix2 j 0) = A.b2 j * (Cert.Law.r * A.g2 j) + A.be2 j) (j : Fin 400) :
    k0_pay3 (F := Ideal) x0 x2 x3 x1 x4 x5 x6 (ix2 j n) = A.kerH2 j := by
  unfold k0_pay3
  simp only [shapeCast_self]
  have z : Scalar.ofBits (F := Ideal) .f32 0x00000000#32 = (0 : EReal) := Ideal.ofBits_zero_f32
  rw [maximumf_apply, addf_apply, spread_apply, h6]
  refine (congrArg₂ max (congrArg (· + _) ((matmul_plain _ rfl _ _ _ _).trans (Finset.sum_congr rfl fun k _ => ?_))) z)
  rw [h5]
  refine congrArg _ ?_
  rw [maximumf_apply, addf_apply, spread_apply, h4, addf_apply]
  refine congrArg₂ max (congrArg (· + _) (congrArg₂ (· + ·) ?_ ?_)) z
  · refine (matmul_plain _ rfl _ _ _ _).trans (Finset.sum_congr rfl fun k' _ => ?_)
    rw [h2, pay2_apply, h0]
  · refine (matmul_plain _ rfl _ _ _ _).trans (Finset.sum_congr rfl fun k' _ => ?_)
    rw [h3, h1]

/-- The selection product at one row and column. -/
theorem select_apply' (x0 : Vec Ideal S16x106496 .f32) (x7 : Vec Ideal S17x416 .f32)
    (h0 : ∀ k : Fin 416, x0 (ix2 ⟨k.val / 26, by omega⟩ ⟨k.val % 26 * 4096 + n.val, by omega⟩) = A.emb k) (i : Fin 17) :
    k0_pay4 (F := Ideal) x0 x7 (ix2 i n) = ∑ k : Fin 416, x7 (ix2 i k) * A.emb k := by
  unfold k0_pay4
  simp only [shapeCast_self]
  refine (matmul_plain _ rfl _ _ _ _).trans (Finset.sum_congr rfl fun k _ => ?_)
  rw [pay2_apply, h0]

/-- **The launch at a column.** -/
theorem body_row (x0 : Vec Ideal S16x106496 .f32) (x1 : Vec Ideal S13x4096 .f32) (x2 : Vec Ideal S400x416 .f32) (x3 : Vec Ideal S400x13 .f32)
    (x4 : Vec Ideal S400x1 .f32) (x5 : Vec Ideal S400x400 .f32) (x6 : Vec Ideal S400x1 .f32) (x7 : Vec Ideal S17x416 .f32)
    (x8 : Vec Ideal S1x416 .f32) (x9 : Vec Ideal S1x400 .f32) (x10 : Vec Ideal S1x2 .f32)
    (h0 : ∀ k : Fin 416, x0 (ix2 ⟨k.val / 26, by omega⟩ ⟨k.val % 26 * 4096 + n.val, by omega⟩) = A.emb k)
    (h1 : ∀ k, x1 (ix2 k n) = A.d k) (h2 : ∀ j k, x2 (ix2 j k) = A.w1t j k) (h3 : ∀ j k, x3 (ix2 j k) = A.w1d j k)
    (h4 : ∀ j, x4 (ix2 j 0) = A.b1 j * (Cert.Law.r * A.g1 j) + A.be1 j)
    (h5 : ∀ j k, x5 (ix2 j k) = A.W2 k j * (Cert.Law.r * A.g2 j))
    (h6 : ∀ j, x6 (ix2 j 0) = A.b2 j * (Cert.Law.r * A.g2 j) + A.be2 j)
    (h7 : ∀ (e : Fin 16) (k : Fin 416), x7 (ix2 ⟨e.val, by omega⟩ k) = Row.sel e k)
    (h7' : ∀ k : Fin 416, x7 (ix2 ⟨16, by omega⟩ k) = A.Wo ⟨k.val % 26, by omega⟩)
    (h8 : ∀ k : Fin 416, x8 (ix2 0 k) = Cert.Law.one) (h9 : ∀ j : Fin 400, x9 (ix2 0 j) = A.Wo ⟨27 + j.val, by omega⟩)
    (h10 : x10 (ix2 0 0) = A.Wo ⟨26, by omega⟩) (h10' : x10 (ix2 0 1) = A.bo) :
    body x0 x1 x2 x3 x4 x5 x6 x7 x8 x9 x10 (ix2 0 n) = Ideal.logistic A.kerOut := by
  rw [body_eq]
  have hlin : k0_pay6 (F := Ideal) x0 x7 (ix2 0 n) = A.kerLin := by
    unfold k0_pay6
    refine (extractStridedSlice_apply _ _ _ _ (ix2 ⟨16, by omega⟩ n) (fun a => by match a with | ⟨0, _⟩ => rfl | ⟨1, _⟩ => exact (Nat.zero_add _).symm)).trans ?_
    rw [select_apply' A n x0 x7 h0]
    exact Finset.sum_congr rfl fun k _ => by rw [h7']
  have hS : ∀ e : Fin 16, k0_pay5 (F := Ideal) x0 x7 (ix2 e n) = A.kerS e := fun e => by
    unfold k0_pay5
    refine (extractStridedSlice_apply _ _ _ _ (ix2 ⟨e.val, by omega⟩ n) (fun a => by
      match a with | ⟨0, _⟩ => exact (Nat.zero_add _).symm | ⟨1, _⟩ => exact (Nat.zero_add _).symm)).trans ?_
    rw [select_apply' A n x0 x7 h0]
    exact Finset.sum_congr rfl fun k _ => by rw [h7]
  have hh := hidden_apply A n x0 x1 x2 x3 x4 x5 x6 h0 h1 h2 h3 h4 h5 h6
  generalize k0_pay3 (F := Ideal) x0 x2 x3 x1 x4 x5 x6 = H at hh
  generalize k0_pay5 (F := Ideal) x0 x7 = S at hS
  generalize k0_pay6 (F := Ideal) x0 x7 = L at hlin
  have hbo : extractAt ![0, 0] (View.ld x10 r0_10) inpos_S1x1_p0_0 = A.bo := by
    rw [← h10']; exact congrArg x10 (funext fun a => Fin.ext (by match a with | ⟨0, _⟩ => rfl | ⟨1, _⟩ => rfl))
  have hwp : extractAt ![0, 0] (View.ld x10 r0_9) inpos_S1x1_p0_0 = A.Wo ⟨26, by omega⟩ := by
    rw [← h10]; exact congrArg x10 (funext fun a => Fin.ext (by match a with | ⟨0, _⟩ => rfl | ⟨1, _⟩ => rfl))
  unfold k0_pay1
  show Ideal.logistic _ = _
  refine congrArg Ideal.logistic ?_
  unfold Row.kerOut
  refine congrArg₂ (· + ·) (congrArg₂ (· + ·) (congrArg₂ (· + ·) hlin ?_) (congrArg₂ (· * ·) ?_ hwp)) hbo
  · simp only [shapeCast_self]
    refine (matmul_plain _ rfl _ _ _ _).trans (Finset.sum_congr rfl fun k _ => ?_)
    rw [h9, hh]
  · unfold Row.kerPair
    refine congrArg₂ (· * ·) rfl (congrArg₂ (· - ·) ?_ ?_)
    · refine (shapeCast_apply _ _ _ (ix1 n) (by rw [Shape.rowMajor_val_one, Shape.rowMajor_val_two]; exact (Nat.zero_add _).symm)).trans ?_
      refine (Ideal.multiReduction_add_single _ _ _ _ _ _).trans (Finset.sum_congr rfl fun e _ => ?_)
      have he : reduces_S16x4096_S4096.lift (ix1 n) e = ix2 e n := funext fun a => Fin.ext (by match a with | ⟨0, _⟩ => rfl | ⟨1, _⟩ => rfl)
      rw [he]
      exact congrArg₂ (· * ·) (hS e) (hS e)
    · refine (matmul_plain _ rfl _ _ _ _).trans (Finset.sum_congr rfl fun k _ => ?_)
      unfold k0_pay7 k0_pay8
      simp only [shapeCast_self]
      rw [h8, mulf_apply, pay2_apply, h0]

end Cert.Body
-- ==== Proof.KernelRow.lean ====
/-
The kernel read at one row of the batch: its result is the logistic of the kernel's logit of that row.
-/
module

public import proofs.«01_k».proof.Proof.HostRead
public import proofs.«01_k».proof.Proof.Body

@[expose] public section

set_option maxRecDepth 16384

noncomputable section

namespace Cert.KernelRow

open Idealize.ShloMosaic Idealize.ShloMosaic.ValueIdx Idealize.ShloMosaic.TcCoe
open Idealize.SL.Sem
open Cert.KernelIdeal Cert.KernelIdeal.Gen
open Cert.Law (Row)

variable (m : (ℓ : Loc nD τ sig) → Buf (Elt Ideal) ℓ) (ρ : Dev nD → PrngReg) (c : Dev nD)

/-- What row `n` of the batch reads from the arguments. -/
abbrev rowAt (n : Fin 16384) : Row :=
  Rows.ofArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) n

/-- Every index word is in the permitted range. -/
abbrev InRange : Prop := ∀ (n : Fin 16384) (f : Fin 26), ((m ((c : Thread nD τ).loc main_arg0) : IVec S16384x26 32) (ix2 n f)).toNat < 100000

variable (hx : InRange m c)
include hx

/-- A launch on the slice of `4096` rows from row `o`, read at its row `n`. -/
theorem launch_apply (o : ℕ) (hs : S16384x26.Slices ![o, 0] S4096x26) (hd : S13x16384.Slices ![0, o] S13x4096) (n : Fin 4096) (hn : o + n.val < 16384) :
    launch m c (embHost (extractStridedSlice S4096x26 ![o, 0] (m ((c : Thread nD τ).loc main_arg0)) hs) (m ((c : Thread nD τ).loc main_arg2)))
      (extractStridedSlice S13x4096 ![0, o] (denseT (m ((c : Thread nD τ).loc main_arg1))) hd) (ix2 0 n)
      = Ideal.logistic (rowAt m c ⟨o + n.val, hn⟩).kerOut := by
  have word (f : Fin 26) : extractStridedSlice S4096x26 ![o, 0] (m ((c : Thread nD τ).loc main_arg0) : IVec S16384x26 32) hs (ix2 n f)
      = (m ((c : Thread nD τ).loc main_arg0) : IVec S16384x26 32) (ix2 ⟨o + n.val, hn⟩ f) :=
    extractStridedSlice_apply _ _ hs (ix2 n f) _ (fun a => match a with
      | ⟨0, _⟩ => rfl
      | ⟨1, _⟩ => (Nat.zero_add _).symm)
  unfold launch
  refine Body.body_row (rowAt m c ⟨o + n.val, hn⟩) n _ _ _ _ _ _ _ _ _ _ _ (fun k => ?_) (fun k => ?_) (fun j k => ?_) (fun j k => ?_)
    (fun j => ?_) (fun j k => ?_) (fun j => ?_) (fun e k => ?_) (fun k => ?_) (fun k => ?_) (fun j => ?_) ?_ ?_
  · refine (HostRead.embHost_apply _ _ (⟨k.val % 26, by omega⟩ : Fin 26) n (⟨k.val / 26, by omega⟩ : Fin 16) ?_).trans ?_
    · rw [word]; exact hx _ _
    · rw [word]; rfl
  · exact HostRead.denseT_apply _ o hd k n hn
  · exact HostRead.w1tHost_apply _ _ j k
  · exact HostRead.w1dHost_apply _ _ j k
  · exact HostRead.bias_apply _ _ _ j
  · exact HostRead.w2Host_apply _ _ j k
  · exact HostRead.bias_apply _ _ _ j
  · exact HostRead.selHost_row _ e k
  · exact HostRead.selHost_last _ k
  · exact HostRead.onesHost_apply k
  · exact HostRead.deepHost_apply _ j
  · exact HostRead.scalHost_zero _ _
  · exact HostRead.scalHost_one _ _

/-- The kernel's result at row `n`. -/
theorem result (n : Fin 16384) : (W9 m ρ c (Proc.devRef .tc main_v106) : FVec Ideal S16384 .f32) (ix1 n) = Ideal.logistic (rowAt m c n).kerOut := by
  rw [W9_v106]
  refine (shapeCast_apply _ shapeCasts_S1x16384_S16384 (ix1 n) (ix2 0 n) ?_).trans ?_
  · rw [Shape.rowMajor_val_two, Shape.rowMajor_val_one]
    exact (congrArg (· + n.val) (Nat.zero_mul _)).trans (Nat.zero_add _)
  have piece (o : ℕ) (hl : o ≤ n.val) (hu : n.val - o < 4096) (p : FVec Ideal S1x4096 .f32)
      (hs : S16384x26.Slices ![o, 0] S4096x26) (hd : S13x16384.Slices ![0, o] S13x4096)
      (hp : p = launch m c (embHost (extractStridedSlice S4096x26 ![o, 0] (m ((c : Thread nD τ).loc main_arg0)) hs) (m ((c : Thread nD τ).loc main_arg2)))
        (extractStridedSlice S13x4096 ![0, o] (denseT (m ((c : Thread nD τ).loc main_arg1))) hd)) :
      p (ix2 0 ⟨n.val - o, hu⟩) = Ideal.logistic (rowAt m c n).kerOut := by
    subst hp
    refine (launch_apply m c hx o hs hd ⟨n.val - o, hu⟩ (by show o + (n.val - o) < 16384; omega)).trans ?_
    exact congrArg (fun i => Ideal.logistic (rowAt m c i).kerOut) (Fin.ext (Nat.add_sub_cancel' hl))
  have off (o : ℕ) (hu : n.val - o < 4096) (b : Fin 2) (hb : b ≠ 1) :
      ((ix2 (0 : Fin 1) (⟨n.val - o, hu⟩ : Fin 4096)) b).val = ((ix2 (0 : Fin 1) n) b).val := by
    match b with
    | ⟨0, _⟩ => rfl
    | ⟨1, _⟩ => exact absurd rfl hb
  have hn := n.isLt
  by_cases h1 : n.val < 4096
  · exact (concatenate_apply_piece 1 _ _ (ix2 0 n) 0 (by show 0 < 4; omega) S1x4096 _ rfl rfl 0 rfl (ix2 0 ⟨n.val - 0, by omega⟩)
      (off 0 _) (Nat.add_sub_cancel' (by omega))).trans (piece 0 (by omega) (by omega) _ _ _ rfl)
  by_cases h2 : n.val < 8192
  · exact (concatenate_apply_piece 1 _ _ (ix2 0 n) 1 (by show 1 < 4; omega) S1x4096 _ rfl rfl 4096 rfl (ix2 0 ⟨n.val - 4096, by omega⟩)
      (off 4096 _) (Nat.add_sub_cancel' (by omega))).trans (piece 4096 (by omega) (by omega) _ _ _ rfl)
  by_cases h3 : n.val < 12288
  · exact (concatenate_apply_piece 1 _ _ (ix2 0 n) 2 (by show 2 < 4; omega) S1x4096 _ rfl rfl 8192 rfl (ix2 0 ⟨n.val - 8192, by omega⟩)
      (off 8192 _) (Nat.add_sub_cancel' (by omega))).trans (piece 8192 (by omega) (by omega) _ _ _ rfl)
  · exact (concatenate_apply_piece 1 _ _ (ix2 0 n) 3 (by show 3 < 4; omega) S1x4096 _ rfl rfl 12288 rfl (ix2 0 ⟨n.val - 12288, by omega⟩)
      (off 12288 _) (Nat.add_sub_cancel' (by omega))).trans (piece 12288 (by omega) (by omega) _ _ _ rfl)

end Cert.KernelRow
-- ==== Proof.RefRow.lean ====
/-
The reference read at one row of the batch: its result is the logistic of the reference's logit of that row.
-/
module

public import proofs.«01_k».proof.Proof.Args
public import proofs.«01_k».proof.Proof.Gather
public import proofs.«01_k».proof.Proof.Gen.ReferenceIdeal.Read
public import Idealize.ShloMosaic.Lib.Routing.OpsPair
public import Idealize.ShloMosaic.Lib.ReduceAll
public import Idealize.ShloMosaic.Lib.WordCmp
public import Idealize.ShloMosaic.Lib.Pipeline.Value
public import Idealize.ShloMosaic.Lib.ValueIdx
public import Idealize.ShloMosaic.PureOps.Ideal.Laws

@[expose] public section

set_option maxRecDepth 16384

noncomputable section

namespace Cert.RefRow

open Idealize.ShloMosaic Idealize.ShloMosaic.ValueIdx
open Cert.ReferenceIdeal Cert.ReferenceIdeal.Gen Cert.ReferenceIdeal.Read
open Cert.Law (Row)
open scoped BigOperators

/-- An index of a two-axis shape from its two coordinates. -/
theorem ext2 {a b : ℕ} (i : (⟨2, ![a, b]⟩ : Shape).Idx) (p : Fin a) (s : Fin b) (h0 : (i 0).val = p.val) (h1 : (i 1).val = s.val) : i = ix2 p s :=
  funext fun x => Fin.ext (match x with
    | ⟨0, _⟩ => h0
    | ⟨1, _⟩ => h1)

/-- An index of a three-axis shape from its three coordinates. -/
theorem ext3 {a b d : ℕ} (i : (⟨3, ![a, b, d]⟩ : Shape).Idx) (p : Fin a) (s : Fin b) (t : Fin d) (h0 : (i 0).val = p.val) (h1 : (i 1).val = s.val)
    (h2 : (i 2).val = t.val) : i = ix3 p s t :=
  funext fun x => Fin.ext (match x with
    | ⟨0, _⟩ => h0
    | ⟨1, _⟩ => h1
    | ⟨2, _⟩ => h2)

/-- An index of a one-axis shape from its coordinate. -/
theorem ext1 {a : ℕ} (i : (⟨1, ![a]⟩ : Shape).Idx) (p : Fin a) (h0 : (i 0).val = p.val) : i = ix1 p :=
  funext fun x => Fin.ext (match x with
    | ⟨0, _⟩ => h0)

variable (x0 : IVec S16384x26 32) (x1 : FVec Ideal S16384x13 .f32) (x2 : FVec Ideal S26x100001x16 .f32)
  (x3 : FVec Ideal S429x400 .f32) (x4 x5 x6 : FVec Ideal S400 .f32)
  (x7 : FVec Ideal S400x400 .f32) (x8 x9 x10 : FVec Ideal S400 .f32)
  (x11 : FVec Ideal S427x1 .f32) (x12 : FVec Ideal S1 .f32) (hx : ∀ n f, (x0 (ix2 n f)).toNat < 100000)

/-! ## The look-up -/

section lookup
include hx

/-- The index words after the treatment of negative ones. -/
theorem word (f : Fin 26) (n : Fin 16384) : val_main_call0_v6 (F := Ideal) x0 (ix3 f n 0) = x0 (ix2 n f) := by
  rw [val_main_call0_v6_apply, val_main_call0_v5_apply, val_main_call0_v4_apply, val_main_call0_v1_apply, val_main_call0_v0_apply,
    val_main_call0_c_apply]
  have e : idx_main_call0_v5 (idx_main_call0_v6 (ix3 f n 0)) = ix2 n f := ext2 _ _ _ rfl rfl
  rw [e]
  exact Routing.wrap_of_lt _ _ (by have := hx n f; omega)

/-- Every index word is in range. -/
theorem inRange (i : S26x16384x1.Idx) : val_main_call0_v12 (F := Ideal) x0 i = 1#1 := by
  obtain ⟨f, n, k, rfl⟩ : ∃ (f : Fin 26) (n : Fin 16384) (k : Fin 1), i = ix3 f n k := ⟨i 0, i 1, i 2, ext3 _ _ _ _ rfl rfl rfl⟩
  obtain rfl : k = 0 := Subsingleton.elim _ _
  have h := hx n f
  rw [val_main_call0_v12_apply, val_main_call0_v8_apply, val_main_call0_v11_apply, word x0 hx, val_main_call0_v7_apply, val_main_call0_c_2_apply,
    val_main_call0_v10_apply, val_main_call0_v9_apply, val_main_call0_c_1_apply,
    WordCmp.cmpi_sge_of_lt (by omega) (by decide), WordCmp.cmpi_sle_of_lt (by omega) (by decide),
    decide_eq_true (show (0#32).toNat ≤ _ from Nat.zero_le _), decide_eq_true (show _ ≤ (100000#32).toNat from by
      show _ ≤ 100000
      omega)]
  rfl

/-- So every look-up is a valid one. -/
theorem valid (j : S26x16384.Idx) : val_main_call0_v13 (F := Ideal) x0 j = 1#1 :=
  IntOp.foldl_andi_one (fun k => val_main_call0_v12 (F := Ideal) x0 (S26x16384x1.rowMajor.symm k)) _ _ rfl fun _ _ => inRange x0 hx _

/-- Element `e` of field `f`'s embedding of row `n`. -/
theorem look (f : Fin 26) (n : Fin 16384) (e : Fin 16) :
    val_main_v0 (F := Ideal) x0 x2 (ix3 f n e) = x2 (ix3 f (Rows.row (x0 (ix2 n f))) e) := by
  rw [val_main_v0_apply, val_main_call0_v15_apply, valid x0 hx]
  refine (show Scalar.select 1#1 _ _ = _ from rfl).trans ?_
  exact Rows.gather_rows gather_S26x100001x16_S26x16384x1_S26x16384x16_2_1_0_0_1_2_1116 rfl rfl rfl rfl rfl rfl rfl _ _ f n e _
    (by rw [word x0 hx]; exact Rows.toInt_row _ (hx n f))

end lookup

include hx

/-- The stacked embeddings. -/
theorem stack (n : Fin 16384) (f : Fin 26) (e : Fin 16) : val_main_v1 (F := Ideal) x0 x2 (ix3 n f e) = (Rows.ofArgs x0 x1 x2 x3 x4 x5 x6 x7 x8 x9 x10 x11 x12 n).E f e := by
  rw [val_main_v1_apply]
  exact (congrArg _ (ext3 _ f n e rfl rfl rfl)).trans (look x0 x2 hx f n e)

/-- The linear term of each field. -/
theorem first (n : Fin 16384) (f : Fin 26) : val_main_v2 (F := Ideal) x0 x2 (ix2 n f) = ∑ e, (Rows.ofArgs x0 x1 x2 x3 x4 x5 x6 x7 x8 x9 x10 x11 x12 n).E f e := by
  rw [val_main_v2_apply, val_main_cst_apply]
  refine (congrArg₂ (· + ·) Ideal.ofBits_zero_f32 (Finset.sum_congr rfl fun e _ => ?_)).trans (zero_add _)
  exact (congrArg _ (ext3 _ n f e rfl rfl rfl)).trans (stack x0 x1 x2 x3 x4 x5 x6 x7 x8 x9 x10 x11 x12 hx n f e)

/-- The pairwise term. -/
theorem pair (n : Fin 16384) : val_main_v11 (F := Ideal) x0 x2 (ix2 n 0) = (Rows.ofArgs x0 x1 x2 x3 x4 x5 x6 x7 x8 x9 x10 x11 x12 n).refPair := by
  rw [val_main_v11_apply, val_main_v10_apply, val_main_cst_3_apply, val_main_v9_apply, val_main_v8_apply, val_main_cst_2_apply]
  refine congrArg (Law.half * ·) ?_
  refine (congrArg₂ (· + ·) Ideal.ofBits_zero_f32 (Finset.sum_congr rfl fun e _ => ?_)).trans (zero_add _)
  refine (congrArg (val_main_v7 (F := Ideal) x0 x2) (ext2 _ n e rfl rfl)).trans ?_
  have s1 : val_main_v3 (F := Ideal) x0 x2 (ix2 n e) = ∑ f, (Rows.ofArgs x0 x1 x2 x3 x4 x5 x6 x7 x8 x9 x10 x11 x12 n).E f e := by
    rw [val_main_v3_apply, val_main_cst_0_apply]
    refine (congrArg₂ (· + ·) Ideal.ofBits_zero_f32 (Finset.sum_congr rfl fun f _ => ?_)).trans (zero_add _)
    exact (congrArg _ (ext3 _ n f e rfl rfl rfl)).trans (stack x0 x1 x2 x3 x4 x5 x6 x7 x8 x9 x10 x11 x12 hx n f e)
  have s2 : val_main_v6 (F := Ideal) x0 x2 (ix2 n e) = ∑ f, (Rows.ofArgs x0 x1 x2 x3 x4 x5 x6 x7 x8 x9 x10 x11 x12 n).E f e * (Rows.ofArgs x0 x1 x2 x3 x4 x5 x6 x7 x8 x9 x10 x11 x12 n).E f e := by
    rw [val_main_v6_apply, val_main_cst_1_apply]
    refine (congrArg₂ (· + ·) Ideal.ofBits_zero_f32 (Finset.sum_congr rfl fun f _ => ?_)).trans (zero_add _)
    have h := (congrArg (val_main_v1 (F := Ideal) x0 x2) (ext3 (idx_main_v6 (ix2 n e) f) n f e rfl rfl rfl)).trans (stack x0 x1 x2 x3 x4 x5 x6 x7 x8 x9 x10 x11 x12 hx n f e)
    rw [val_main_v5_apply, h]
    rfl
  rw [val_main_v7_apply, val_main_v4_apply, s1, s2]
  rfl

/-! ## The two layers -/

/-- What the first hidden layer reads. -/
theorem deepIn (n : Fin 16384) (k : Fin 429) : val_main_v13 (F := Ideal) x0 x1 x2 (ix2 n k) = (Rows.ofArgs x0 x1 x2 x3 x4 x5 x6 x7 x8 x9 x10 x11 x12 n).deepIn k := by
  unfold val_main_v13 Row.deepIn
  by_cases h : k.val < 416
  · rw [dif_pos h]
    refine (concatenate_pair_apply_left 1 _ _ concatenates_S16384x416_S16384x13_S16384x429_d1 (ix2 n k) rfl
      (ix2 n (⟨k.val, h⟩ : Fin 416)) (fun b => ?_)).trans ?_
    · match b with
      | ⟨0, _⟩ => rfl
      | ⟨1, _⟩ => rfl
    · rw [val_main_v12_apply]
      refine (congrArg _ (ext3 _ n ⟨k.val / 16, by omega⟩ ⟨k.val % 16, by omega⟩ ?_ ?_ ?_)).trans
        (stack x0 x1 x2 x3 x4 x5 x6 x7 x8 x9 x10 x11 x12 hx n _ _)
      · show (n.val * 416 + k.val) / 416 = n.val
        omega
      · show (n.val * 416 + k.val) / 16 % 26 = k.val / 16
        omega
      · show (n.val * 416 + k.val) % 16 = k.val % 16
        omega
  · rw [dif_neg h]
    refine concatenate_pair_apply_right 1 _ _ concatenates_S16384x416_S16384x13_S16384x429_d1 (ix2 n k) rfl rfl
      (ix2 n (⟨k.val - 416, by omega⟩ : Fin 13)) (fun b hb => ?_) ?_
    · match b with
      | ⟨0, _⟩ => rfl
      | ⟨1, _⟩ => exact absurd rfl hb
    · show k.val - 416 + 416 = k.val
      omega

/-- The first hidden layer. -/
theorem h1 (n : Fin 16384) (j : Fin 400) : val_main_v29 (F := Ideal) x0 x1 x2 x3 x4 x5 x6 (ix2 n j) = (Rows.ofArgs x0 x1 x2 x3 x4 x5 x6 x7 x8 x9 x10 x11 x12 n).refH1 j := by
  rw [val_main_v29_apply, val_main_v28_apply, val_main_cst_5_apply, val_main_v27_apply, val_main_v26_apply, val_main_v25_apply,
    val_main_v24_apply, val_main_v23_apply, val_main_v22_apply, val_main_v21_apply, val_main_v20_apply, val_main_v19_apply,
    val_main_v18_apply, val_main_cst_4_apply, val_main_v17_apply, val_main_v16_apply, val_main_v15_apply, val_main_v14_apply]
  have e5 : idx_main_v22 (idx_main_v23 (ix2 n j)) = ix1 j := ext1 _ _ rfl
  have e6 : idx_main_v25 (idx_main_v26 (ix2 n j)) = ix1 j := ext1 _ _ rfl
  have e4 : idx_main_v15 (idx_main_v16 (ix2 n j)) = ix1 j := ext1 _ _ rfl
  have es : (∑ k : Fin 429, val_main_v13 (F := Ideal) x0 x1 x2 (lidx_main_v14 (ix2 n j) k) * x3 (ridx_main_v14 (ix2 n j) k))
      = ∑ k, (Rows.ofArgs x0 x1 x2 x3 x4 x5 x6 x7 x8 x9 x10 x11 x12 n).deepIn k * (Rows.ofArgs x0 x1 x2 x3 x4 x5 x6 x7 x8 x9 x10 x11 x12 n).W1 k j := by
    refine Finset.sum_congr rfl fun k _ => congrArg₂ (· * ·) ?_ (congrArg x3 (ext2 _ k j rfl rfl))
    exact (congrArg _ (ext2 _ n k rfl rfl)).trans (deepIn x0 x1 x2 x3 x4 x5 x6 x7 x8 x9 x10 x11 x12 hx n k)
  rw [e4, e5, e6, es]
  exact congrArg (max _) Ideal.ofBits_zero_f32

/-- The second hidden layer. -/
theorem h2 (n : Fin 16384) (j : Fin 400) : val_main_v45 (F := Ideal) x0 x1 x2 x3 x4 x5 x6 x7 x8 x9 x10 (ix2 n j) = (Rows.ofArgs x0 x1 x2 x3 x4 x5 x6 x7 x8 x9 x10 x11 x12 n).refH2 j := by
  rw [val_main_v45_apply, val_main_v44_apply, val_main_cst_7_apply, val_main_v43_apply, val_main_v42_apply, val_main_v41_apply,
    val_main_v40_apply, val_main_v39_apply, val_main_v38_apply, val_main_v37_apply, val_main_v36_apply, val_main_v35_apply,
    val_main_v34_apply, val_main_cst_6_apply, val_main_v33_apply, val_main_v32_apply, val_main_v31_apply, val_main_v30_apply]
  have e5 : idx_main_v38 (idx_main_v39 (ix2 n j)) = ix1 j := ext1 _ _ rfl
  have e6 : idx_main_v41 (idx_main_v42 (ix2 n j)) = ix1 j := ext1 _ _ rfl
  have e4 : idx_main_v31 (idx_main_v32 (ix2 n j)) = ix1 j := ext1 _ _ rfl
  have es : (∑ k : Fin 400, val_main_v29 (F := Ideal) x0 x1 x2 x3 x4 x5 x6 (lidx_main_v30 (ix2 n j) k) * x7 (ridx_main_v30 (ix2 n j) k))
      = ∑ k, (Rows.ofArgs x0 x1 x2 x3 x4 x5 x6 x7 x8 x9 x10 x11 x12 n).refH1 k * (Rows.ofArgs x0 x1 x2 x3 x4 x5 x6 x7 x8 x9 x10 x11 x12 n).W2 k j := by
    refine Finset.sum_congr rfl fun k _ => congrArg₂ (· * ·) ?_ (congrArg x7 (ext2 _ k j rfl rfl))
    exact (congrArg _ (ext2 _ n k rfl rfl)).trans (h1 x0 x1 x2 x3 x4 x5 x6 x7 x8 x9 x10 x11 x12 hx n k)
  rw [e4, e5, e6, es]
  exact congrArg (max _) Ideal.ofBits_zero_f32

/-! ## The output layer -/

/-- What the output layer reads. -/
theorem outIn (n : Fin 16384) (k : Fin 427) : val_main_v46 (F := Ideal) x0 x1 x2 x3 x4 x5 x6 x7 x8 x9 x10 (ix2 n k) = (Rows.ofArgs x0 x1 x2 x3 x4 x5 x6 x7 x8 x9 x10 x11 x12 n).refZ k := by
  unfold val_main_v46 Row.refZ
  by_cases h : k.val < 26
  · rw [dif_pos h]
    refine (concatenate_apply_piece 1 _ _ (ix2 n k) 0 (by show 0 < 3; omega) S16384x26 _ rfl rfl 0 rfl
      (ix2 n (⟨k.val, h⟩ : Fin 26)) (fun b hb => ?_) (Nat.zero_add _)).trans (first x0 x1 x2 x3 x4 x5 x6 x7 x8 x9 x10 x11 x12 hx n _)
    match b with
    | ⟨0, _⟩ => rfl
    | ⟨1, _⟩ => exact absurd rfl hb
  · rw [dif_neg h]
    by_cases h' : k.val = 26
    · rw [if_pos h']
      refine (concatenate_apply_piece 1 _ _ (ix2 n k) 1 (by show 1 < 3; omega) S16384x1 _ rfl rfl 26 rfl
        (ix2 n (0 : Fin 1)) (fun b hb => ?_) ?_).trans (pair x0 x1 x2 x3 x4 x5 x6 x7 x8 x9 x10 x11 x12 hx n)
      · match b with
        | ⟨0, _⟩ => rfl
        | ⟨1, _⟩ => exact absurd rfl hb
      · exact h'.symm
    · rw [if_neg h']
      refine (concatenate_apply_piece 1 _ _ (ix2 n k) 2 (by show 2 < 3; omega) S16384x400 _ rfl rfl 27 rfl
        (ix2 n (⟨k.val - 27, by omega⟩ : Fin 400)) (fun b hb => ?_) ?_).trans (h2 x0 x1 x2 x3 x4 x5 x6 x7 x8 x9 x10 x11 x12 hx n _)
      · match b with
        | ⟨0, _⟩ => rfl
        | ⟨1, _⟩ => exact absurd rfl hb
      · show 27 + (k.val - 27) = k.val
        omega

/-- The reference's result at row `n`. -/
theorem result (n : Fin 16384) : val_main_v57 (F := Ideal) x0 x1 x2 x3 x4 x5 x6 x7 x8 x9 x10 x11 x12 (ix1 n) = Ideal.logistic (Rows.ofArgs x0 x1 x2 x3 x4 x5 x6 x7 x8 x9 x10 x11 x12 n).refOut := by
  rw [val_main_v57_apply]
  refine (congrArg _ (ext2 _ n 0 (Nat.div_one _) rfl)).trans ?_
  rw [val_main_v56_apply, val_main_v55_apply, val_main_cst_9_apply, val_main_v54_apply, val_main_v53_apply, val_main_cst_8_apply,
    val_main_v52_apply, val_main_v51_apply, val_main_v50_apply, val_main_v49_apply, val_main_v48_apply, val_main_v47_apply]
  have e : idx_main_v48 (idx_main_v49 (ix2 n 0)) = ix1 0 := ext1 _ _ rfl
  have es : (∑ k : Fin 427, val_main_v46 (F := Ideal) x0 x1 x2 x3 x4 x5 x6 x7 x8 x9 x10 (lidx_main_v47 (ix2 n 0) k) * x11 (ridx_main_v47 (ix2 n 0) k))
      = ∑ k, (Rows.ofArgs x0 x1 x2 x3 x4 x5 x6 x7 x8 x9 x10 x11 x12 n).refZ k * (Rows.ofArgs x0 x1 x2 x3 x4 x5 x6 x7 x8 x9 x10 x11 x12 n).Wo k := by
    refine Finset.sum_congr rfl fun k _ => congrArg₂ (· * ·) ?_ (congrArg x11 (ext2 _ k 0 rfl rfl))
    exact (congrArg _ (ext2 _ n k rfl rfl)).trans (outIn x0 x1 x2 x3 x4 x5 x6 x7 x8 x9 x10 x11 x12 hx n k)
  rw [e, es]
  exact (congrArg (fun o => Ideal.div o (o + Ideal.exp (-(Rows.ofArgs x0 x1 x2 x3 x4 x5 x6 x7 x8 x9 x10 x11 x12 n).refOut))) Ideal.ofBits_one_f32)

end Cert.RefRow
-- ==== Proof.Pre.lean ====
/-
What the precondition says of the arguments: every index word is in range, and the named inputs are real.
-/
module

public import proofs.«01_k».proof.Defs
public import proofs.«01_k».proof.Proof.KernelRow
public import Idealize.ShloMosaic.Lib.Affine

@[expose] public section

set_option maxRecDepth 16384

noncomputable section

namespace Cert.Pre

open Idealize.ShloMosaic Idealize.ShloMosaic.ValueIdx Idealize.ShloMosaic.TcCoe
open Idealize.SL.Sem
open Cert.KernelIdeal
open Cert.Law (IsReal)

/-- An array all of whose magnitudes are below infinity is real at every index. -/
theorem real_of_lt {s : Shape} (x : FVec Ideal s .f32) (hb : S_.BroadcastsInDim s ![])
    (h : cmpf .olt (Host.absf x) (broadcastInDim s ![] hb (constant S_ .f32 0x7F800000#32)) = fun _ => 1#1) (i : s.Idx) : IsReal (x i) := by
  have ht : Ideal.ofBits .f32 0x7F800000#32 = ⊤ := by simp [Ideal.ofBits, Ideal.ieee]
  have hi : Ideal.cmp .olt (max (x i) (-(x i))) (Ideal.ofBits .f32 0x7F800000#32) = 1#1 := congrFun h i
  have hlt : max (x i) (-(x i)) < (⊤ : EReal) := by
    rw [ht] at hi
    by_contra hn
    have : Ideal.cmp .olt (max (x i) (-(x i))) ⊤ = 0#1 := by simp [Ideal.cmp, hn]
    rw [this] at hi
    exact absurd hi (by decide)
  obtain ⟨h1, h2⟩ := max_lt_iff.1 hlt
  generalize (x i : EReal) = y at h1 h2
  induction y using EReal.rec with
  | bot => exact absurd h2 (by simp)
  | top => exact absurd h1 (lt_irrefl _)
  | coe r => exact ⟨r, rfl⟩

variable [Cert.Pre_drawn.Facts] (m : (ℓ : Loc nD τ sig) → Buf (Elt Ideal) ℓ) (h : Pre_KernelIdeal_drawn m) (c : Dev nD)
include h

/-- The index words are in range. -/
theorem inRange : KernelRow.InRange m c := by
  intro n f
  obtain ⟨h0, h1, -⟩ := h c
  have e0 := IntOp.cmpi_sge.1 (congrFun h0 (ix2 n f))
  have e1 := IntOp.cmpi_slt.1 (congrFun h1 (ix2 n f))
  change (0#32).toInt ≤ BitVec.toInt (m ((c : Thread nD τ).loc main_arg0) (ix2 n f)) at e0
  change BitVec.toInt (m ((c : Thread nD τ).loc main_arg0) (ix2 n f)) < (100000#32).toInt at e1
  rw [show (0#32).toInt = 0 from rfl] at e0
  rw [show (100000#32).toInt = 100000 from rfl] at e1
  have := BitVec.toInt_eq_toNat_cond (m ((c : Thread nD τ).loc main_arg0) (ix2 n f))
  have := BitVec.isLt (m ((c : Thread nD τ).loc main_arg0) (ix2 n f))
  split at * <;> omega

/-- The named inputs of every row are real. -/
theorem real (n : Fin 16384) : (KernelRow.rowAt m c n).Real := by
  obtain ⟨-, -, h2, h3, h4, h5, h6, h7, h8, h9, h10⟩ := h c
  exact {
    E := fun f e => real_of_lt _ _ h3 _
    d := fun k => real_of_lt _ _ h2 _
    W1 := fun k j => real_of_lt _ _ h4 _
    b1 := fun j => real_of_lt _ _ h5 _
    g1 := fun j => real_of_lt _ _ h6 _
    be1 := fun j => real_of_lt _ _ h7 _
    W2 := fun k j => real_of_lt _ _ h8 _
    g2 := fun j => real_of_lt _ _ h9 _
    Wo := fun k hk => by
      have hw := real_of_lt _ _ h10 (ix2 (⟨k.val, hk⟩ : Fin 26) 0)
      dsimp only at hw
      rwa [extractStridedSlice_apply _ _ _ _ (ix2 k 0) (fun a => match a with
        | ⟨0, _⟩ => (Nat.zero_add _).symm
        | ⟨1, _⟩ => rfl)] at hw }

end Cert.Pre
-- ==== Proof.lean ====
/-
The proof of the certificate's claim: the three programs run and leave their arguments unchanged, and over the
ideal numbers the kernel and the reference end with equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Gen.ReferenceIdeal.Run
public import proofs.«01_k».proof.Proof.Gen.ReferenceIdeal.Read
public import proofs.«01_k».proof.Proof.Run
public import proofs.«01_k».proof.Proof.KernelRow
public import proofs.«01_k».proof.Proof.RefRow
public import proofs.«01_k».proof.Proof.Pre
public import Idealize.ShloMosaic.Adequacy
public import Idealize.ShloMosaic.Init

@[expose] public section

noncomputable section

namespace Cert.Proof

open Idealize.ShloMosaic Idealize.ShloMosaic.ValueIdx Idealize.SL.Sem

/-- From any memory the reference runs, leaves its arguments unchanged and ends with every semaphore at zero. -/
theorem reference_frame : Cert.quiescent_ReferenceIdeal := fun m g _ => (θ_run Cert.ReferenceIdeal.defs _ _).mono
  (fun r h => ⟨fun c => (h c).2, Idealize.ShloMosaic.sem_eq_zero_of_no_sems (by decide) r.2⟩)
  (Cert.ReferenceIdeal.Value.run (F := Ideal) m g)

/-- Under the precondition the reference, on arguments equal to the kernel's, has the kernel's result. -/
theorem results_eq (m : (ℓ : Loc Cert.KernelIdeal.nD Cert.KernelIdeal.τ Cert.KernelIdeal.sig) → Buf (Elt Ideal) ℓ)
    (g : Dev Cert.KernelIdeal.nD → PrngReg) (hm : Cert.Pre_KernelIdeal_drawn m) (c : Dev Cert.KernelIdeal.nD) :
    Cert.ReferenceIdeal.Read.val_main_v57 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
      = Cert.KernelIdeal.Gen.W9 m g c (Proc.devRef .tc Cert.KernelIdeal.main_v106) := by
  funext i
  obtain ⟨n, rfl⟩ : ∃ n : Fin 16384, i = ix1 n := ⟨i 0, Cert.RefRow.ext1 i (i 0) rfl⟩
  have hx := Cert.Pre.inRange m hm c
  refine (Cert.RefRow.result _ _ _ _ _ _ _ _ _ _ _ _ _ hx n).trans (Eq.trans ?_ (Cert.KernelRow.result m g c hx n).symm)
  exact congrArg Ideal.logistic (Cert.Law.kerOut_eq_refOut _ (Cert.Pre.real m hm c n)).symm

/-- The kernel and the reference end with equal results. -/
theorem algebraic : Cert.algebraic_KernelIdeal_ReferenceIdeal_pre_drawn := by
  intro m g m' g' hm ha
  refine ⟨fun c => Cert.KernelIdeal.Gen.W9 m g c (Proc.devRef .tc Cert.KernelIdeal.main_v106), Cert.KernelIdeal.Gen.run m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, e7, e8, e9, e10, e11, e12⟩ := ha c
  rw [Cert.ReferenceIdeal.Read.val_main_v57_eq, e0, e1, e2, e3, e4, e5, e6, e7, e8, e9, e10, e11, e12]
  exact results_eq m g hm c

/-- Everything the certificate claims. -/
theorem claim : Cert.Claim := ⟨Cert.Kernel.Gen.facts, Cert.KernelIdeal.Gen.facts, Cert.ReferenceIdeal.Gen.facts, Cert.Pre_drawn.Gen.facts,
  fun m g _ => Cert.Kernel.Gen.frame m g, fun m g _ => Cert.KernelIdeal.Gen.frame m g, fun m g _ => Cert.KernelIdeal.Gen.frame m g,
  reference_frame, fun m g _ => reference_frame m g trivial, trivial, algebraic⟩

end Cert.Proof

end
